-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_vocabulary [hPre_targets_in_vocabulary : Cert.Pre_targets_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_vocabulary [hPre_targets_in_vocabulary : Cert.Pre_targets_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_inputs_finite [hPre_inputs_finite : Cert.Pre_inputs_finite.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_inputs_finite.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3)) (m ((c.tc : Thread Cert.CtxKernelIdeal.nD Cert.CtxKernelIdeal.τ).loc Cert.CtxKernelIdeal.main_arg4)) (m ((c.tc : Thread Cert.CtxKernelIdeal.nD Cert.CtxKernelIdeal.τ).loc Cert.CtxKernelIdeal.main_arg5))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_inputs_finite [hPre_inputs_finite : Cert.Pre_inputs_finite.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_inputs_finite.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3)) (m ((c.tc : Thread Cert.CtxReferenceIdeal.nD Cert.CtxReferenceIdeal.τ).loc Cert.CtxReferenceIdeal.main_arg4)) (m ((c.tc : Thread Cert.CtxReferenceIdeal.nD Cert.CtxReferenceIdeal.τ).loc Cert.CtxReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_targets_in_vocabulary [hKernelIdeal : Cert.KernelIdeal.Facts] [hPre_targets_in_vocabulary : Cert.Pre_targets_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_targets_in_vocabulary [hReferenceIdeal : Cert.ReferenceIdeal.Facts] [hPre_targets_in_vocabulary : Cert.Pre_targets_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3)
      ∧ r.2.mem ((c.tc : Thread Cert.CtxKernel.nD Cert.CtxKernel.τ).loc Cert.CtxKernel.main_arg4) = m ((c.tc : Thread Cert.CtxKernel.nD Cert.CtxKernel.τ).loc Cert.CtxKernel.main_arg4)
      ∧ r.2.mem ((c.tc : Thread Cert.CtxKernel.nD Cert.CtxKernel.τ).loc Cert.CtxKernel.main_arg5) = m ((c.tc : Thread Cert.CtxKernel.nD Cert.CtxKernel.τ).loc Cert.CtxKernel.main_arg5))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
      ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5))
      ∧ r.2.sem = fun _ => 0)

def quiescent_CtxKernelIdeal_pre_inputs_finite [hCtxKernelIdeal : Cert.CtxKernelIdeal.Facts] [hPre_inputs_finite : Cert.Pre_inputs_finite.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_inputs_finite m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
      ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5))
      ∧ r.2.sem = fun _ => 0)

def quiescent_CtxReferenceIdeal_pre_inputs_finite [hCtxReferenceIdeal : Cert.CtxReferenceIdeal.Facts] [hPre_inputs_finite : Cert.Pre_inputs_finite.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_inputs_finite m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_targets_in_vocabulary [hKernelIdeal : Cert.KernelIdeal.Facts] [hReferenceIdeal : Cert.ReferenceIdeal.Facts] [hPre_targets_in_vocabulary : Cert.Pre_targets_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v4)) (v1 : (c : Dev Cert.LossKernelIdeal.nD) → Buf (Elt Ideal) ((c.tc : Thread Cert.LossKernelIdeal.nD Cert.LossKernelIdeal.τ).loc Cert.LossKernelIdeal.main_v6)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4) = v0 c
          ∧ r.2.mem ((c.tc : Thread Cert.LossKernelIdeal.nD Cert.LossKernelIdeal.τ).loc Cert.LossKernelIdeal.main_v6) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v19) = v0 c
          ∧ r.2.mem ((c.tc : Thread Cert.LossReferenceIdeal.nD Cert.LossReferenceIdeal.τ).loc Cert.LossReferenceIdeal.main_v22) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_CtxKernel_CtxKernelIdeal : Prop :=
  True

def algebraic_CtxKernelIdeal_CtxReferenceIdeal_pre_inputs_finite [hCtxKernelIdeal : Cert.CtxKernelIdeal.Facts] [hCtxReferenceIdeal : Cert.CtxReferenceIdeal.Facts] [hPre_inputs_finite : Cert.Pre_inputs_finite.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_inputs_finite m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)
      ∧ m' ((c.tc : Thread Cert.CtxReferenceIdeal.nD Cert.CtxReferenceIdeal.τ).loc Cert.CtxReferenceIdeal.main_arg4) = m ((c.tc : Thread Cert.CtxKernelIdeal.nD Cert.CtxKernelIdeal.τ).loc Cert.CtxKernelIdeal.main_arg4)
      ∧ m' ((c.tc : Thread Cert.CtxReferenceIdeal.nD Cert.CtxReferenceIdeal.τ).loc Cert.CtxReferenceIdeal.main_arg5) = m ((c.tc : Thread Cert.CtxKernelIdeal.nD Cert.CtxKernelIdeal.τ).loc Cert.CtxKernelIdeal.main_arg5)) →
    ∃ (v0 : (c : Dev Cert.CtxKernelIdeal.nD) → Buf (Elt Ideal) ((c.tc : Thread Cert.CtxKernelIdeal.nD Cert.CtxKernelIdeal.τ).loc Cert.CtxKernelIdeal.main_v5_0)) (v1 : (c : Dev Cert.CtxKernelIdeal.nD) → Buf (Elt Ideal) ((c.tc : Thread Cert.CtxKernelIdeal.nD Cert.CtxKernelIdeal.τ).loc Cert.CtxKernelIdeal.main_v5_1)) (v2 : (c : Dev Cert.CtxKernelIdeal.nD) → Buf (Elt Ideal) ((c.tc : Thread Cert.CtxKernelIdeal.nD Cert.CtxKernelIdeal.τ).loc Cert.CtxKernelIdeal.main_v5_2)) (v3 : (c : Dev Cert.CtxKernelIdeal.nD) → Buf (Elt Ideal) ((c.tc : Thread Cert.CtxKernelIdeal.nD Cert.CtxKernelIdeal.τ).loc Cert.CtxKernelIdeal.main_v5_3)) (v4 : (c : Dev Cert.CtxKernelIdeal.nD) → Buf (Elt Ideal) ((c.tc : Thread Cert.CtxKernelIdeal.nD Cert.CtxKernelIdeal.τ).loc Cert.CtxKernelIdeal.main_v5_4)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v5_0) = v0 c
          ∧ r.2.mem ((c.tc : Thread Cert.CtxKernelIdeal.nD Cert.CtxKernelIdeal.τ).loc Cert.CtxKernelIdeal.main_v5_1) = v1 c
          ∧ r.2.mem ((c.tc : Thread Cert.CtxKernelIdeal.nD Cert.CtxKernelIdeal.τ).loc Cert.CtxKernelIdeal.main_v5_2) = v2 c
          ∧ r.2.mem ((c.tc : Thread Cert.CtxKernelIdeal.nD Cert.CtxKernelIdeal.τ).loc Cert.CtxKernelIdeal.main_v5_3) = v3 c
          ∧ r.2.mem ((c.tc : Thread Cert.CtxKernelIdeal.nD Cert.CtxKernelIdeal.τ).loc Cert.CtxKernelIdeal.main_v5_4) = v4 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
          ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
          ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v3_0) = v0 c
          ∧ r.2.mem ((c.tc : Thread Cert.CtxReferenceIdeal.nD Cert.CtxReferenceIdeal.τ).loc Cert.CtxReferenceIdeal.main_v3_1) = v1 c
          ∧ r.2.mem ((c.tc : Thread Cert.CtxReferenceIdeal.nD Cert.CtxReferenceIdeal.τ).loc Cert.CtxReferenceIdeal.main_v3_2) = v2 c
          ∧ r.2.mem ((c.tc : Thread Cert.CtxReferenceIdeal.nD Cert.CtxReferenceIdeal.τ).loc Cert.CtxReferenceIdeal.main_v3_3) = v3 c
          ∧ r.2.mem ((c.tc : Thread Cert.CtxReferenceIdeal.nD Cert.CtxReferenceIdeal.τ).loc Cert.CtxReferenceIdeal.main_v3_4) = v4 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5))

def Claim : Prop :=
  ∃ (hKernel : Cert.Kernel.Facts) (hKernelIdeal : Cert.KernelIdeal.Facts) (hReferenceIdeal : Cert.ReferenceIdeal.Facts) (hLossKernel : Cert.LossKernel.Facts) (hLossKernelIdeal : Cert.LossKernelIdeal.Facts) (hLossReferenceIdeal : Cert.LossReferenceIdeal.Facts) (hCtxKernel : Cert.CtxKernel.Facts) (hCtxKernelIdeal : Cert.CtxKernelIdeal.Facts) (hCtxReferenceIdeal : Cert.CtxReferenceIdeal.Facts) (hPre_targets_in_vocabulary : Cert.Pre_targets_in_vocabulary.Facts) (hPre_inputs_finite : Cert.Pre_inputs_finite.Facts),
    quiescent_Kernel (hKernel := hKernel)
    ∧ quiescent_KernelIdeal (hKernelIdeal := hKernelIdeal)
    ∧ quiescent_KernelIdeal_pre_targets_in_vocabulary (hKernelIdeal := hKernelIdeal) (hPre_targets_in_vocabulary := hPre_targets_in_vocabulary)
    ∧ quiescent_ReferenceIdeal (hReferenceIdeal := hReferenceIdeal)
    ∧ quiescent_ReferenceIdeal_pre_targets_in_vocabulary (hReferenceIdeal := hReferenceIdeal) (hPre_targets_in_vocabulary := hPre_targets_in_vocabulary)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_CtxKernel (hCtxKernel := hCtxKernel)
    ∧ quiescent_CtxKernelIdeal (hCtxKernelIdeal := hCtxKernelIdeal)
    ∧ quiescent_CtxKernelIdeal_pre_inputs_finite (hCtxKernelIdeal := hCtxKernelIdeal) (hPre_inputs_finite := hPre_inputs_finite)
    ∧ quiescent_CtxReferenceIdeal (hCtxReferenceIdeal := hCtxReferenceIdeal)
    ∧ quiescent_CtxReferenceIdeal_pre_inputs_finite (hCtxReferenceIdeal := hCtxReferenceIdeal) (hPre_inputs_finite := hPre_inputs_finite)
    ∧ preserves_Kernel_KernelIdeal
    ∧ algebraic_KernelIdeal_ReferenceIdeal_pre_targets_in_vocabulary (hKernelIdeal := hKernelIdeal) (hReferenceIdeal := hReferenceIdeal) (hPre_targets_in_vocabulary := hPre_targets_in_vocabulary)
    ∧ preserves_LossKernel_LossKernelIdeal
    ∧ algebraic_LossKernelIdeal_LossReferenceIdeal (hLossKernelIdeal := hLossKernelIdeal) (hLossReferenceIdeal := hLossReferenceIdeal)
    ∧ preserves_CtxKernel_CtxKernelIdeal
    ∧ algebraic_CtxKernelIdeal_CtxReferenceIdeal_pre_inputs_finite (hCtxKernelIdeal := hCtxKernelIdeal) (hCtxReferenceIdeal := hCtxReferenceIdeal) (hPre_inputs_finite := hPre_inputs_finite)
-- ==== Pre_inputs_finite.lean ====
abbrev S2x2048x1024 : Shape := ⟨3, ![2, 2048, 1024]⟩
abbrev S1024x4x1280 : Shape := ⟨3, ![1024, 4, 1280]⟩
abbrev S4x1280 : Shape := ⟨2, ![4, 1280]⟩
abbrev S1024x4 : Shape := ⟨2, ![1024, 4]⟩
abbrev S4 : Shape := ⟨1, ![4]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)

variable [Facts]

def fn {F : FTy → Type} [FloatOps F] (main_arg0 : FVec F S2x2048x1024 .bf16) (main_arg1 : FVec F S1024x4x1280 .fp8e4m3) (main_arg2 : FVec F S4x1280 .f32) (main_arg3 : FVec F S4x1280 .f32) (main_arg4 : FVec F S1024x4 .f32) (main_arg5 : FVec F S4 .f32) : IVec S2x2048x1024 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F7F0000#32
  let main_v2 : FVec F S2x2048x1024 .f32 := broadcastInDim S2x2048x1024 ![] bcast_S_S2x2048x1024 main_cst
  let main_v3 : IVec S2x2048x1024 1 := cmpf .ole main_v1 main_v2
  main_v3
-- ==== Pre_targets_in_vocabulary.lean ====
abbrev S2x2048 : Shape := ⟨2, ![2, 2048]⟩
abbrev S50257x1280 : Shape := ⟨2, ![50257, 1280]⟩
abbrev S50257 : Shape := ⟨1, ![50257]⟩
abbrev S4x4096x1280 : Shape := ⟨3, ![4, 4096, 1280]⟩
abbrev S4096x4 : Shape := ⟨2, ![4096, 4]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : IVec S2x2048 32) (main_arg1 : FVec F S50257x1280 .fp8e4m3) (main_arg2 : FVec F S50257 .f32) (main_arg3 : FVec F S4x4096x1280 .fp8e4m3) (main_arg4 : FVec F S4096x4 .f32) : IVec S2x2048 1 :=
  let main_c : IVec S_ 32 := constantI S_ 32 50257#32
  let main_v0 : IVec S2x2048 32 := broadcastInDim S2x2048 ![] bcast_S_S2x2048 main_c
  let main_v1 : IVec S2x2048 1 := cmpi .slt main_arg0 main_v0
  main_v1
-- ==== Kernel.lean ====
abbrev S2x2048 : Shape := ⟨2, ![2, 2048]⟩
abbrev S50257x1280 : Shape := ⟨2, ![50257, 1280]⟩
abbrev S50257 : Shape := ⟨1, ![50257]⟩
abbrev S4x4096x1280 : Shape := ⟨3, ![4, 4096, 1280]⟩
abbrev S4096x4 : Shape := ⟨2, ![4096, 4]⟩
abbrev S4x4096 : Shape := ⟨2, ![4, 4096]⟩
abbrev S1x16384 : Shape := ⟨2, ![1, 16384]⟩
abbrev S1x4096 : Shape := ⟨2, ![1, 4096]⟩
abbrev S1x1x1x4096 : Shape := ⟨4, ![1, 1, 1, 4096]⟩
abbrev S1x1x4x4096 : Shape := ⟨4, ![1, 1, 4, 4096]⟩
abbrev S3x1280 : Shape := ⟨2, ![3, 1280]⟩
abbrev S50260x1280 : Shape := ⟨2, ![50260, 1280]⟩
abbrev S50257x1 : Shape := ⟨2, ![50257, 1]⟩
abbrev S16384x1280 : Shape := ⟨2, ![16384, 1280]⟩
abbrev S2048x1280 : Shape := ⟨2, ![2048, 1280]⟩
abbrev S2048x1 : Shape := ⟨2, ![2048, 1]⟩
abbrev S512x1280 : Shape := ⟨2, ![512, 1280]⟩
abbrev S1x512 : Shape := ⟨2, ![1, 512]⟩
abbrev S8x16384 : Shape := ⟨2, ![8, 16384]⟩
abbrev S8x512 : Shape := ⟨2, ![8, 512]⟩
abbrev S2048x512 : Shape := ⟨2, ![2048, 512]⟩
abbrev S256x8x512 : Shape := ⟨3, ![256, 8, 512]⟩
abbrev S1x8x512 : Shape := ⟨3, ![1, 8, 512]⟩
abbrev S512 : Shape := ⟨1, ![512]⟩

abbrev nBuf : Space → Nat
  | .hbm => 17
  | .vmem => 17
  | .smem => 0
  | _ => 0

abbrev bufTy : (tb : Table) → Fin (tcTables nBuf tb) → BufTy
  | .hbm, ⟨0, _⟩ => ⟨S2x2048, .i32⟩
  | .hbm, ⟨1, _⟩ => ⟨S50257x1280, .fp8e4m3⟩
  | .hbm, ⟨2, _⟩ => ⟨S50257, .f32⟩
  | .hbm, ⟨3, _⟩ => ⟨S4x4096x1280, .fp8e4m3⟩
  | .hbm, ⟨4, _⟩ => ⟨S4096x4, .f32⟩
  | .hbm, ⟨5, _⟩ => ⟨S4x4096, .f32⟩
  | .hbm, ⟨6, _⟩ => ⟨S1x16384, .f32⟩
  | .hbm, ⟨7, _⟩ => ⟨S1x4096, .i32⟩
  | .hbm, ⟨8, _⟩ => ⟨S1x1x1x4096, .i32⟩
  | .hbm, ⟨9, _⟩ => ⟨S1x1x4x4096, .i32⟩
  | .hbm, ⟨10, _⟩ => ⟨S1x16384, .i32⟩
  | .hbm, ⟨11, _⟩ => ⟨S3x1280, .fp8e4m3⟩
  | .hbm, ⟨12, _⟩ => ⟨S50260x1280, .fp8e4m3⟩
  | .hbm, ⟨13, _⟩ => ⟨S50257x1, .f32⟩
  | .hbm, ⟨14, _⟩ => ⟨S16384x1280, .fp8e4m3⟩
  | .hbm, ⟨15, _⟩ => ⟨S1x16384, .f32⟩
  | .hbm, ⟨16, _⟩ => ⟨S1x16384, .f32⟩
  | .local _ .vmem, ⟨0, _⟩ => ⟨S2048x1280, .fp8e4m3⟩
  | .local _ .vmem, ⟨1, _⟩ => ⟨S2048x1280, .fp8e4m3⟩
  | .local _ .vmem, ⟨2, _⟩ => ⟨S2048x1, .f32⟩
  | .local _ .vmem, ⟨3, _⟩ => ⟨S2048x1, .f32⟩
  | .local _ .vmem, ⟨4, _⟩ => ⟨S512x1280, .fp8e4m3⟩
  | .local _ .vmem, ⟨5, _⟩ => ⟨S512x1280, .fp8e4m3⟩
  | .local _ .vmem, ⟨6, _⟩ => ⟨S1x512, .f32⟩
  | .local _ .vmem, ⟨7, _⟩ => ⟨S1x512, .f32⟩
  | .local _ .vmem, ⟨8, _⟩ => ⟨S1x512, .i32⟩
  | .local _ .vmem, ⟨9, _⟩ => ⟨S1x512, .i32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S8x16384, .f32⟩
  | .local _ .vmem, ⟨15, _⟩ => ⟨S8x16384, .f32⟩
  | .local _ .vmem, ⟨16, _⟩ => ⟨S8x16384, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![25, 32], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_26 : Index := 0#32
  let arg1 : BitVec 32 := BitVec.ofNat 32 (i 1).val
  let c512_i32 : BitVec 32 := 512#32
  let v0 : BitVec 32 := Scalar.muli arg1 c512_i32
  let v1 : BitVec 32 := v0
  let v75 : Index := Scalar.indexCast v1
  ![0, v75.toNat]
def k0_off2 (i : grid0.Coords) : Fin 2 → Nat :=
  let c0_13 : Index := 0#32
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  ![0, v35.toNat]
def k0_cond2 (i : grid0.Coords) : BitVec 1 :=
  let arg0 : BitVec 32 := BitVec.ofNat 32 (i 0).val
  let c24_i32 : BitVec 32 := 24#32
  let v71 : BitVec 1 := Scalar.cmpi .eq arg0 c24_i32
  let v72 : BitVec 32 := Scalar.extui v71
  let c0_i32_24 : BitVec 32 := 0#32
  let v73 : BitVec 1 := Scalar.cmpi .ne v72 c0_i32_24
  v73

def k0_off3 (i : grid0.Coords) : Fin 2 → Nat :=
  let c0_25 : Index := 0#32
  let arg1 : BitVec 32 := BitVec.ofNat 32 (i 1).val
  let c512_i32 : BitVec 32 := 512#32
  let v0 : BitVec 32 := Scalar.muli arg1 c512_i32
  let v1 : BitVec 32 := v0
  let v74 : Index := Scalar.indexCast v1
  ![0, v74.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S2048x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x2048 : Shape := ⟨2, ![2, 2048]⟩
abbrev S50257x1280 : Shape := ⟨2, ![50257, 1280]⟩
abbrev S50257 : Shape := ⟨1, ![50257]⟩
abbrev S4x4096x1280 : Shape := ⟨3, ![4, 4096, 1280]⟩
abbrev S4096x4 : Shape := ⟨2, ![4096, 4]⟩
abbrev S1x4096 : Shape := ⟨2, ![1, 4096]⟩
abbrev S1x1x1x4096 : Shape := ⟨4, ![1, 1, 1, 4096]⟩
abbrev S1x1x4x4096 : Shape := ⟨4, ![1, 1, 4, 4096]⟩
abbrev S1x16384 : Shape := ⟨2, ![1, 16384]⟩
abbrev S50257x1 : Shape := ⟨2, ![50257, 1]⟩
abbrev S16384x1280 : Shape := ⟨2, ![16384, 1280]⟩
abbrev S4x4096 : Shape := ⟨2, ![4, 4096]⟩
abbrev S50257x16384 : Shape := ⟨2, ![50257, 16384]⟩
abbrev S16384 : Shape := ⟨1, ![16384]⟩

abbrev nBuf : Space → Nat
  | .hbm => 15
  | .vmem => 7
  | .smem => 0
  | _ => 0

abbrev bufTy : (tb : Table) → Fin (tcTables nBuf tb) → BufTy
  | .hbm, ⟨0, _⟩ => ⟨S2x2048, .i32⟩
  | .hbm, ⟨1, _⟩ => ⟨S50257x1280, .fp8e4m3⟩
  | .hbm, ⟨2, _⟩ => ⟨S50257, .f32⟩
  | .hbm, ⟨3, _⟩ => ⟨S4x4096x1280, .fp8e4m3⟩
  | .hbm, ⟨4, _⟩ => ⟨S4096x4, .f32⟩
  | .hbm, ⟨5, _⟩ => ⟨S1x4096, .i32⟩
  | .hbm, ⟨6, _⟩ => ⟨S1x1x1x4096, .i32⟩
  | .hbm, ⟨7, _⟩ => ⟨S1x1x4x4096, .i32⟩
  | .hbm, ⟨8, _⟩ => ⟨S1x16384, .i32⟩
  | .hbm, ⟨9, _⟩ => ⟨S50257x1, .f32⟩
  | .hbm, ⟨10, _⟩ => ⟨S16384x1280, .fp8e4m3⟩
  | .hbm, ⟨11, _⟩ => ⟨S4x4096, .f32⟩
  | .hbm, ⟨12, _⟩ => ⟨S1x16384, .f32⟩
  | .hbm, ⟨13, _⟩ => ⟨S1x16384, .f32⟩
  | .hbm, ⟨14, _⟩ => ⟨S1x16384, .f32⟩
  | .local _ .vmem, ⟨0, _⟩ => ⟨S1x16384, .i32⟩
  | .local _ .vmem, ⟨1, _⟩ => ⟨S50257x1280, .fp8e4m3⟩
  | .local _ .vmem, ⟨2, _⟩ => ⟨S50257x1, .f32⟩
  | .local _ .vmem, ⟨3, _⟩ => ⟨S16384x1280, .fp8e4m3⟩
  | .local _ .vmem, ⟨4, _⟩ => ⟨S1x16384, .f32⟩
  | .local _ .vmem, ⟨5, _⟩ => ⟨S1x16384, .f32⟩
  | .local _ .vmem, ⟨6, _⟩ => ⟨S1x16384, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50257x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S50257x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== LossKernel.lean ====
abbrev S1x16384 : Shape := ⟨2, ![1, 16384]⟩
abbrev S4096x4 : Shape := ⟨2, ![4096, 4]⟩
abbrev S4x4096 : Shape := ⟨2, ![4, 4096]⟩
abbrev S1x4096 : Shape := ⟨2, ![1, 4096]⟩
abbrev S4096 : Shape := ⟨1, ![4096]⟩
abbrev S2x2048 : Shape := ⟨2, ![2, 2048]⟩
abbrev S2x2048x4 : Shape := ⟨3, ![2, 2048, 4]⟩

abbrev nBuf : Space → Nat
  | .hbm => 11
  | .vmem => 5
  | .smem => 0
  | _ => 0

abbrev bufTy : (tb : Table) → Fin (tcTables nBuf tb) → BufTy
  | .hbm, ⟨0, _⟩ => ⟨S1x16384, .f32⟩
  | .hbm, ⟨1, _⟩ => ⟨S1x16384, .f32⟩
  | .hbm, ⟨2, _⟩ => ⟨S4096x4, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S1x4096, .f32⟩
  | .hbm, ⟨7, _⟩ => ⟨S4x4096, .f32⟩
  | .hbm, ⟨8, _⟩ => ⟨S2x2048, .f32⟩
  | .hbm, ⟨9, _⟩ => ⟨S4096x4, .f32⟩
  | .hbm, ⟨10, _⟩ => ⟨S2x2048x4, .f32⟩
  | .local _ .vmem, ⟨0, _⟩ => ⟨S4x4096, .f32⟩
  | .local _ .vmem, ⟨1, _⟩ => ⟨S4x4096, .f32⟩
  | .local _ .vmem, ⟨2, _⟩ => ⟨S4x4096, .f32⟩
  | .local _ .vmem, ⟨3, _⟩ => ⟨S1x4096, .f32⟩
  | .local _ .vmem, ⟨4, _⟩ => ⟨S4x4096, .f32⟩
  | _, _ => ⟨S1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== LossReferenceIdeal.lean ====
abbrev S1x16384 : Shape := ⟨2, ![1, 16384]⟩
abbrev S4096x4 : Shape := ⟨2, ![4096, 4]⟩
abbrev S4x4096 : Shape := ⟨2, ![4, 4096]⟩
abbrev S_ : Shape := ⟨0, ![]⟩
abbrev S4096 : Shape := ⟨1, ![4096]⟩
abbrev S4096x1 : Shape := ⟨2, ![4096, 1]⟩
abbrev S2x2048 : Shape := ⟨2, ![2, 2048]⟩
abbrev S2x2048x4 : Shape := ⟨3, ![2, 2048, 4]⟩

abbrev nBuf : Space → Nat
  | .hbm => 30
  | .vmem => 0
  | .smem => 0
  | _ => 0

abbrev bufTy : (tb : Table) → Fin (tcTables nBuf tb) → BufTy
  | .hbm, ⟨0, _⟩ => ⟨S1x16384, .f32⟩
  | .hbm, ⟨1, _⟩ => ⟨S1x16384, .f32⟩
  | .hbm, ⟨2, _⟩ => ⟨S4096x4, .f32⟩
  | .hbm, ⟨3, _⟩ => ⟨S4x4096, .f32⟩
  | .hbm, ⟨4, _⟩ => ⟨S4096x4, .f32⟩
  | .hbm, ⟨5, _⟩ => ⟨S4x4096, .f32⟩
  | .hbm, ⟨6, _⟩ => ⟨S4096x4, .f32⟩
  | .hbm, ⟨7, _⟩ => ⟨S4096x4, .f32⟩
  | .hbm, ⟨8, _⟩ => ⟨S4096x4, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S4096x4, .f32⟩
  | .hbm, ⟨13, _⟩ => ⟨S4096x4, .f32⟩
  | .hbm, ⟨14, _⟩ => ⟨S4096x4, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S2x2048, .f32⟩
  | .hbm, ⟨26, _⟩ => ⟨S_, .f32⟩
  | .hbm, ⟨27, _⟩ => ⟨S4096x4, .f32⟩
  | .hbm, ⟨28, _⟩ => ⟨S4096x4, .f32⟩
  | .hbm, ⟨29, _⟩ => ⟨S2x2048x4, .f32⟩
  | _, _ => ⟨S1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== CtxKernel.lean ====
abbrev S2x2048x1024 : Shape := ⟨3, ![2, 2048, 1024]⟩
abbrev S1024x4x1280 : Shape := ⟨3, ![1024, 4, 1280]⟩
abbrev S4x1280 : Shape := ⟨2, ![4, 1280]⟩
abbrev S1024x4 : Shape := ⟨2, ![1024, 4]⟩
abbrev S4 : Shape := ⟨1, ![4]⟩
abbrev S4x1024x1280 : Shape := ⟨3, ![4, 1024, 1280]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S4096x1024 : Shape := ⟨2, ![4096, 1024]⟩
abbrev S4096x1 : Shape := ⟨2, ![4096, 1]⟩
abbrev S4096x4 : Shape := ⟨2, ![4096, 4]⟩
abbrev S4x4096x1280 : Shape := ⟨3, ![4, 4096, 1280]⟩
abbrev S128x1024 : Shape := ⟨2, ![128, 1024]⟩
abbrev S128x1 : Shape := ⟨2, ![128, 1]⟩
abbrev S128x4 : Shape := ⟨2, ![128, 4]⟩
abbrev S4x128x1280 : Shape := ⟨3, ![4, 128, 1280]⟩
abbrev S128x128 : Shape := ⟨2, ![128, 128]⟩
abbrev S1x4 : Shape := ⟨2, ![1, 4]⟩
abbrev S1x1024x1280 : Shape := ⟨3, ![1, 1024, 1280]⟩
abbrev S1024x1280 : Shape := ⟨2, ![1024, 1280]⟩
abbrev S128x1280 : Shape := ⟨2, ![128, 1280]⟩
abbrev S1x1280 : Shape := ⟨2, ![1, 1280]⟩
abbrev S1x128x1280 : Shape := ⟨3, ![1, 128, 1280]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x1024, .bf16⟩
  | .hbm, ⟨1, _⟩ => ⟨S1024x4x1280, .fp8e4m3⟩
  | .hbm, ⟨2, _⟩ => ⟨S4x1280, .f32⟩
  | .hbm, ⟨3, _⟩ => ⟨S4x1280, .f32⟩
  | .hbm, ⟨4, _⟩ => ⟨S1024x4, .f32⟩
  | .hbm, ⟨5, _⟩ => ⟨S4, .f32⟩
  | .hbm, ⟨6, _⟩ => ⟨S4x1024x1280, .fp8e4m3⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S4096x1024, .bf16⟩
  | .hbm, ⟨15, _⟩ => ⟨S4096x1024, .fp8e4m3⟩
  | .hbm, ⟨16, _⟩ => ⟨S4096x1, .f32⟩
  | .hbm, ⟨17, _⟩ => ⟨S4096x4, .f32⟩
  | .hbm, ⟨18, _⟩ => ⟨S4x4096x1280, .fp8e4m3⟩
  | .hbm, ⟨19, _⟩ => ⟨S4096x4, .f32⟩
  | .local _ .vmem, ⟨0, _⟩ => ⟨S128x1024, .bf16⟩
  | .local _ .vmem, ⟨1, _⟩ => ⟨S128x1024, .bf16⟩
  | .local _ .vmem, ⟨2, _⟩ => ⟨S4x1024x1280, .fp8e4m3⟩
  | .local _ .vmem, ⟨3, _⟩ => ⟨S4x1280, .f32⟩
  | .local _ .vmem, ⟨4, _⟩ => ⟨S4x1280, .f32⟩
  | .local _ .vmem, ⟨5, _⟩ => ⟨S1024x128, .f32⟩
  | .local _ .vmem, ⟨6, _⟩ => ⟨S1x128, .f32⟩
  | .local _ .vmem, ⟨7, _⟩ => ⟨S128x1024, .fp8e4m3⟩
  | .local _ .vmem, ⟨8, _⟩ => ⟨S128x1024, .fp8e4m3⟩
  | .local _ .vmem, ⟨9, _⟩ => ⟨S128x1, .f32⟩
  | .local _ .vmem, ⟨10, _⟩ => ⟨S128x1, .f32⟩
  | .local _ .vmem, ⟨11, _⟩ => ⟨S128x4, .f32⟩
  | .local _ .vmem, ⟨12, _⟩ => ⟨S128x4, .f32⟩
  | .local _ .vmem, ⟨13, _⟩ => ⟨S4x128x1280, .fp8e4m3⟩
  | .local _ .vmem, ⟨14, _⟩ => ⟨S4x128x1280, .fp8e4m3⟩
  | .local _ .vmem, ⟨15, _⟩ => ⟨S128x4, .f32⟩
  | .local _ .vmem, ⟨16, _⟩ => ⟨S128x4, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x1280 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CtxReferenceIdeal.lean ====
abbrev S2x2048x1024 : Shape := ⟨3, ![2, 2048, 1024]⟩
abbrev S1024x4x1280 : Shape := ⟨3, ![1024, 4, 1280]⟩
abbrev S4x1280 : Shape := ⟨2, ![4, 1280]⟩
abbrev S1024x4 : Shape := ⟨2, ![1024, 4]⟩
abbrev S4 : Shape := ⟨1, ![4]⟩
abbrev S4096x1024 : Shape := ⟨2, ![4096, 1024]⟩
abbrev S4x1024x1280 : Shape := ⟨3, ![4, 1024, 1280]⟩
abbrev S1x4 : Shape := ⟨2, ![1, 4]⟩
abbrev S4096x1 : Shape := ⟨2, ![4096, 1]⟩
abbrev S4096x4 : Shape := ⟨2, ![4096, 4]⟩
abbrev S4x4096x1280 : Shape := ⟨3, ![4, 4096, 1280]⟩
abbrev S4096 : Shape := ⟨1, ![4096]⟩
abbrev S1x1024x1280 : Shape := ⟨3, ![1, 1024, 1280]⟩
abbrev S1024x1280 : Shape := ⟨2, ![1024, 1280]⟩
abbrev S4096x1280 : Shape := ⟨2, ![4096, 1280]⟩
abbrev S1x1280 : Shape := ⟨2, ![1, 1280]⟩
abbrev S1x4096x1280 : Shape := ⟨3, ![1, 4096, 1280]⟩

abbrev nBuf : Space → Nat
  | .hbm => 14
  | .vmem => 11
  | .smem => 0
  | _ => 0

abbrev bufTy : (tb : Table) → Fin (tcTables nBuf tb) → BufTy
  | .hbm, ⟨0, _⟩ => ⟨S2x2048x1024, .bf16⟩
  | .hbm, ⟨1, _⟩ => ⟨S1024x4x1280, .fp8e4m3⟩
  | .hbm, ⟨2, _⟩ => ⟨S4x1280, .f32⟩
  | .hbm, ⟨3, _⟩ => ⟨S4x1280, .f32⟩
  | .hbm, ⟨4, _⟩ => ⟨S1024x4, .f32⟩
  | .hbm, ⟨5, _⟩ => ⟨S4, .f32⟩
  | .hbm, ⟨6, _⟩ => ⟨S4096x1024, .bf16⟩
  | .hbm, ⟨7, _⟩ => ⟨S4x1024x1280, .fp8e4m3⟩
  | .hbm, ⟨8, _⟩ => ⟨S1x4, .f32⟩
  | .hbm, ⟨9, _⟩ => ⟨S4096x1024, .fp8e4m3⟩
  | .hbm, ⟨10, _⟩ => ⟨S4096x1, .f32⟩
  | .hbm, ⟨11, _⟩ => ⟨S4096x4, .f32⟩
  | .hbm, ⟨12, _⟩ => ⟨S4x4096x1280, .fp8e4m3⟩
  | .hbm, ⟨13, _⟩ => ⟨S4096x4, .f32⟩
  | .local _ .vmem, ⟨0, _⟩ => ⟨S4096x1024, .bf16⟩
  | .local _ .vmem, ⟨1, _⟩ => ⟨S4x1024x1280, .fp8e4m3⟩
  | .local _ .vmem, ⟨2, _⟩ => ⟨S4x1280, .f32⟩
  | .local _ .vmem, ⟨3, _⟩ => ⟨S4x1280, .f32⟩
  | .local _ .vmem, ⟨4, _⟩ => ⟨S1024x4, .f32⟩
  | .local _ .vmem, ⟨5, _⟩ => ⟨S1x4, .f32⟩
  | .local _ .vmem, ⟨6, _⟩ => ⟨S4096x1024, .fp8e4m3⟩
  | .local _ .vmem, ⟨7, _⟩ => ⟨S4096x1, .f32⟩
  | .local _ .vmem, ⟨8, _⟩ => ⟨S4096x4, .f32⟩
  | .local _ .vmem, ⟨9, _⟩ => ⟨S4x4096x1280, .fp8e4m3⟩
  | .local _ .vmem, ⟨10, _⟩ => ⟨S4096x4, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096x1280 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.BBody.lean ====
/- The body of the `head` kernel, run once per control case at a symbolic grid point. -/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- The lane offset of a point's row tile in the scratch buffers. -/
abbrev off (i : grid0.Coords) : Fin 2 → ℕ := ![0, 512 * (i 1).val]

theorem off_inb (i : grid0.Coords) : ∀ a, off i a + S8x512.size a ≤ S8x16384.size a := by
  intro a; have h := k0_off2_inb i a; rw [k0_off2_eq i] at h; exact h

/-- The row tile's block of a scratch buffer. -/
def blk (i : grid0.Coords) (x : Vec F S8x16384 .f32) : Vec F S8x512 .f32 :=
  VecWindow.window (s := S8x16384) x (off i) S8x512.size (off_inb i)

/-- A scratch buffer with the row tile's block replaced. -/
def upd (i : grid0.Coords) (x : Vec F S8x16384 .f32) (w : Vec F S8x512 .f32) : Vec F S8x16384 .f32 :=
  VecWindow.put (s := S8x16384) x (off i) S8x512.size w

/-- What the row tile's block of a scratch buffer holds when the accumulation starts: `z` at the first vocabulary tile, what the buffer held at the later ones. -/
def ent (i : grid0.Coords) (z : Vec F S8x512 .f32) (x : Vec F S8x16384 .f32) : Vec F S8x512 .f32 :=
  if k0_cond1 i = 1#1 then z else blk i x

theorem ent_pos {i : grid0.Coords} (h : k0_cond1 i = 1#1) (z : Vec F S8x512 .f32) (x : Vec F S8x16384 .f32) : ent i z x = z := if_pos h
theorem ent_neg {i : grid0.Coords} (h : ¬ k0_cond1 i = 1#1) (z : Vec F S8x512 .f32) (x : Vec F S8x16384 .f32) : ent i z x = blk i x := if_neg h

/-- The condition of the first branch: the first vocabulary tile. -/
theorem cond1_iff (i : grid0.Coords) : Iff (k0_cond1 i = 1#1) ((i 0).val = 0) := by
  have h : ∀ a : Fin 25, Iff (Scalar.cmpi .ne (Scalar.extui (Scalar.cmpi .eq (BitVec.ofNat 32 a.val) 0#32) : BitVec 32) 0#32 = 1#1) (a.val = 0) := by decide
  exact h (i 0)

/-- The condition of the last branch: the last vocabulary tile. -/
theorem cond2_iff (i : grid0.Coords) : Iff (k0_cond2 i = 1#1) ((i 0).val = 24) := by
  have h : ∀ a : Fin 25, Iff (Scalar.cmpi .ne (Scalar.extui (Scalar.cmpi .eq (BitVec.ofNat 32 a.val) 24#32) : BitVec 32) 0#32 = 1#1) (a.val = 24) := by decide
  exact h (i 0)

/-! ## What the point leaves in its row tile's blocks -/

section New
variable (i : grid0.Coords) (x0 : Vec F S2048x1280 .fp8e4m3) (x1 : Vec F S2048x1 .f32) (x2 : Vec F S512x1280 .fp8e4m3) (x3 : Vec F S1x512 .f32) (x4 : Vec F S1x512 .i32)
  (M L T : Vec F S8x16384 .f32)

/-- The running maximum after the point. -/
def newM : Vec F S8x512 .f32 := k0_pay4 (k0_pay13 i x0 x2 x1 x3) (ent i k0_pay7 M)
/-- The running sum of exponentials after the point. -/
def newL : Vec F S8x512 .f32 := k0_pay3 (k0_pay13 i x0 x2 x1 x3) (ent i k0_pay7 M) (ent i k0_pay8 L)
/-- The running target logit after the point. -/
def newT : Vec F S8x512 .f32 := k0_pay1 (k0_pay12 i x0 x2 x1 x3 x4) (ent i k0_pay9 T)
end New

/-! ## Reads after stores -/

section Reads
variable {sp : Space} (v : View sig .tc sp S8x16384 .f32) (f : v.ty.Contents (Elt F)) (i : grid0.Coords)

/-- The block read after one store over it. -/
theorem cov1 (h1 : k0_cond1 i = 1#1) (w : Vec F S8x512 .f32) :
    v.readCov (Val := Elt F) [⟨Rect.unit (s := S8x16384) (k0_off1 i) S8x512.size (k0_off1_inb i h1), w⟩] (Rect.unit (s := S8x16384) (k0_off2 i) S8x512.size (k0_off2_inb i)).toLoadRect = w := by
  unfold View.readCov
  rw [View.readAt_unit v _ _ (k0_off2_eq i) (off_inb i), View.read_writes_cons_put v _ _ _ _ (k0_off1_eq i)]
  exact VecWindow.window_put_same (s := S8x16384) _ _ _ _ _

/-- The block read at the end after the store over it. -/
theorem cov3 (h2 : k0_cond2 i = 1#1) (w : Vec F S8x512 .f32) :
    v.readCov (Val := Elt F) [⟨Rect.unit (s := S8x16384) (k0_off2 i) S8x512.size (k0_off2_inb i), w⟩] (Rect.unit (s := S8x16384) (k0_off3 i) S8x512.size (k0_off3_inb i h2)).toLoadRect = w := by
  unfold View.readCov
  rw [View.readAt_unit v _ _ (k0_off3_eq i) (off_inb i), View.read_writes_cons_put v _ _ _ _ (k0_off2_eq i)]
  exact VecWindow.window_put_same (s := S8x16384) _ _ _ _ _

/-- The block read before any store. -/
theorem read2 : v.readAt (Elt F) (Rect.unit (s := S8x16384) (k0_off2 i) S8x512.size (k0_off2_inb i)).toLoadRect f = blk i (v.read (Elt F) f) :=
  View.readAt_unit v _ _ (k0_off2_eq i) (off_inb i)

/-- The buffer after one store over the block. -/
theorem fin1 (w w' : Vec F S8x512 .f32) (hw : w = w') :
    v.read (Elt F) (v.writes (Elt F) f [⟨Rect.unit (s := S8x16384) (k0_off2 i) S8x512.size (k0_off2_inb i), w⟩]) = upd i (v.read (Elt F) f) w' := by
  subst hw; exact View.read_writes_cons_put v _ _ _ _ (k0_off2_eq i)

/-- The buffer after two stores over the block: the later one's payload. -/
theorem fin2 (h1 : k0_cond1 i = 1#1) (w w' z : Vec F S8x512 .f32) (hw : w = w') :
    v.read (Elt F) (v.writes (Elt F) f [⟨Rect.unit (s := S8x16384) (k0_off2 i) S8x512.size (k0_off2_inb i), w⟩, ⟨Rect.unit (s := S8x16384) (k0_off1 i) S8x512.size (k0_off1_inb i h1), z⟩])
      = upd i (v.read (Elt F) f) w' := by
  subst hw
  rw [View.read_writes_cons_put v _ _ _ _ (k0_off2_eq i), View.read_writes_cons_put v _ _ _ _ (k0_off1_eq i)]
  exact VecWindow.put_put_same (s := S8x16384) _ _ _ _ _
end Reads

set_option maxHeartbeats 4000000 in
/-- The body at a point of the first vocabulary tile. -/
theorem run_first (c : Dev nD) (E : Set ℕ) (i : grid0.Coords) (h1 : k0_cond1 i = 1#1) (h2 : ¬ k0_cond2 i = 1#1)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fM, %hfM, HM⟩, ⟨%fL, %hfL, HL⟩, ⟨%fT, %hfT, HT⟩, Hk⟩
  subst hf0 hf1 hf2 hf3 hf4 hf5 hf6 hfM hfL hfT
  have eM : k0_pay4 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readCov arg9.view [⟨Rect.unit (s := S8x16384) (k0_off1 i) S8x512.size (k0_off1_inb i h1), k0_pay7⟩] (Rect.unit (s := S8x16384) (k0_off2 i) S8x512.size (k0_off2_inb i)).toLoadRect) = newM i (View.read _ arg2.view f0) (View.read _ arg3.view f1) (View.read _ arg4.view f2) (View.read _ arg5.view f3) (View.read _ arg9.view fM) := by
    unfold newM; rw [ent_pos h1, View.readAt_full, View.readAt_full, View.readAt_full, View.readAt_full, cov1 _ i h1]
  have eL : k0_pay3 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readCov arg9.view [⟨Rect.unit (s := S8x16384) (k0_off1 i) S8x512.size (k0_off1_inb i h1), k0_pay7⟩] (Rect.unit (s := S8x16384) (k0_off2 i) S8x512.size (k0_off2_inb i)).toLoadRect) (View.readCov arg10.view [⟨Rect.unit (s := S8x16384) (k0_off1 i) S8x512.size (k0_off1_inb i h1), k0_pay8⟩] (Rect.unit (s := S8x16384) (k0_off2 i) S8x512.size (k0_off2_inb i)).toLoadRect) = newL i (View.read _ arg2.view f0) (View.read _ arg3.view f1) (View.read _ arg4.view f2) (View.read _ arg5.view f3) (View.read _ arg9.view fM) (View.read _ arg10.view fL) := by
    unfold newL; rw [ent_pos h1, ent_pos h1, View.readAt_full, View.readAt_full, View.readAt_full, View.readAt_full, cov1 _ i h1, cov1 _ i h1]
  have eT : k0_pay1 (F := F) (k0_pay12 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3) (View.readAt _ arg6.view (Rect.unit ![0, 0] S1x512.size inb_S1x512_S1x512_0_0).toLoadRect f4)) (View.readCov arg11.view [⟨Rect.unit (s := S8x16384) (k0_off1 i) S8x512.size (k0_off1_inb i h1), k0_pay9⟩] (Rect.unit (s := S8x16384) (k0_off2 i) S8x512.size (k0_off2_inb i)).toLoadRect) = newT i (View.read _ arg2.view f0) (View.read _ arg3.view f1) (View.read _ arg4.view f2) (View.read _ arg5.view f3) (View.read _ arg6.view f4) (View.read _ arg11.view fT) := by
    unfold newT; rw [ent_pos h1, View.readAt_full, View.readAt_full, View.readAt_full, View.readAt_full, View.readAt_full, cov1 _ i h1]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HM]
  · iexists _; isplitr
    swap; · iexact HM
    ipureintro
    exact fin2 _ _ i h1 _ _ _ eM
  isplitl [HL]
  · iexists _; isplitr
    swap; · iexact HL
    ipureintro
    exact fin2 _ _ i h1 _ _ _ eL
  iexists _; isplitr
  swap; · iexact HT
  ipureintro
  exact fin2 _ _ i h1 _ _ _ eT

set_option maxHeartbeats 4000000 in
/-- The body at a point of a vocabulary tile that is neither the first nor the last. -/
theorem run_middle (c : Dev nD) (E : Set ℕ) (i : grid0.Coords) (h1 : ¬ k0_cond1 i = 1#1) (h2 : ¬ k0_cond2 i = 1#1)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fM, %hfM, HM⟩, ⟨%fL, %hfL, HL⟩, ⟨%fT, %hfT, HT⟩, Hk⟩
  subst hf0 hf1 hf2 hf3 hf4 hf5 hf6 hfM hfL hfT
  have eM : k0_pay4 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) = newM i (View.read _ arg2.view f0) (View.read _ arg3.view f1) (View.read _ arg4.view f2) (View.read _ arg5.view f3) (View.read _ arg9.view fM) := by
    unfold newM; rw [ent_neg h1, View.readAt_full, View.readAt_full, View.readAt_full, View.readAt_full, read2]
  have eL : k0_pay3 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) (View.readAt _ arg10.view (Rect.unit (s := S8x16384) (k0_off2 i) S8x512.size (k0_off2_inb i)).toLoadRect fL) = newL i (View.read _ arg2.view f0) (View.read _ arg3.view f1) (View.read _ arg4.view f2) (View.read _ arg5.view f3) (View.read _ arg9.view fM) (View.read _ arg10.view fL) := by
    unfold newL; rw [ent_neg h1, ent_neg h1, View.readAt_full, View.readAt_full, View.readAt_full, View.readAt_full, read2, read2]
  have eT : k0_pay1 (F := F) (k0_pay12 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3) (View.readAt _ arg6.view (Rect.unit ![0, 0] S1x512.size inb_S1x512_S1x512_0_0).toLoadRect f4)) (View.readAt _ arg11.view (Rect.unit (s := S8x16384) (k0_off2 i) S8x512.size (k0_off2_inb i)).toLoadRect fT) = newT i (View.read _ arg2.view f0) (View.read _ arg3.view f1) (View.read _ arg4.view f2) (View.read _ arg5.view f3) (View.read _ arg6.view f4) (View.read _ arg11.view fT) := by
    unfold newT; rw [ent_neg h1, View.readAt_full, View.readAt_full, View.readAt_full, View.readAt_full, View.readAt_full, read2]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HM]
  · iexists _; isplitr
    swap; · iexact HM
    ipureintro
    exact fin1 _ _ i _ _ eM
  isplitl [HL]
  · iexists _; isplitr
    swap; · iexact HL
    ipureintro
    exact fin1 _ _ i _ _ eL
  iexists _; isplitr
  swap; · iexact HT
  ipureintro
  exact fin1 _ _ i _ _ eT

set_option maxHeartbeats 4000000 in
/-- The body at a point of the last vocabulary tile: the two results' blocks are stored. -/
theorem run_last (c : Dev nD) (E : Set ℕ) (i : grid0.Coords) (h1 : ¬ k0_cond1 i = 1#1) (h2 : k0_cond2 i = 1#1)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare (k0_pay5 (newM i x0 x1 x2 x3 M) (newL i x0 x1 x2 x3 M L)) ∗ owns (c : Thread nD τ) arg8 fullShare (k0_pay6 (newT i x0 x1 x2 x3 x4 T))
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fM, %hfM, HM⟩, ⟨%fL, %hfL, HL⟩, ⟨%fT, %hfT, HT⟩, Hk⟩
  subst hf0 hf1 hf2 hf3 hf4 hf5 hf6 hfM hfL hfT
  have eM : k0_pay4 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) = newM i (View.read _ arg2.view f0) (View.read _ arg3.view f1) (View.read _ arg4.view f2) (View.read _ arg5.view f3) (View.read _ arg9.view fM) := by
    unfold newM; rw [ent_neg h1, View.readAt_full, View.readAt_full, View.readAt_full, View.readAt_full, read2]
  have eL : k0_pay3 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) (View.readAt _ arg10.view (Rect.unit (s := S8x16384) (k0_off2 i) S8x512.size (k0_off2_inb i)).toLoadRect fL) = newL i (View.read _ arg2.view f0) (View.read _ arg3.view f1) (View.read _ arg4.view f2) (View.read _ arg5.view f3) (View.read _ arg9.view fM) (View.read _ arg10.view fL) := by
    unfold newL; rw [ent_neg h1, ent_neg h1, View.readAt_full, View.readAt_full, View.readAt_full, View.readAt_full, read2, read2]
  have eT : k0_pay1 (F := F) (k0_pay12 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3) (View.readAt _ arg6.view (Rect.unit ![0, 0] S1x512.size inb_S1x512_S1x512_0_0).toLoadRect f4)) (View.readAt _ arg11.view (Rect.unit (s := S8x16384) (k0_off2 i) S8x512.size (k0_off2_inb i)).toLoadRect fT) = newT i (View.read _ arg2.view f0) (View.read _ arg3.view f1) (View.read _ arg4.view f2) (View.read _ arg5.view f3) (View.read _ arg6.view f4) (View.read _ arg11.view fT) := by
    unfold newT; rw [ent_neg h1, View.readAt_full, View.readAt_full, View.readAt_full, View.readAt_full, View.readAt_full, read2]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ _).trans ?_
    exact congrArg₂ (k0_pay5 (F := F)) ((cov3 _ i h2 _).trans eM) ((cov3 _ i h2 _).trans eL)
  isplitl [H6]
  · iexists _; isplitr
    swap; · iexact H6
    ipureintro
    refine (View.read_writes_full _ _ _ _ _).trans ?_
    exact congrArg (k0_pay6 (F := F)) ((cov3 _ i h2 _).trans eT)
  isplitl [HM]
  · iexists _; isplitr
    swap; · iexact HM
    ipureintro
    exact fin1 _ _ i _ _ eM
  isplitl [HL]
  · iexists _; isplitr
    swap; · iexact HL
    ipureintro
    exact fin1 _ _ i _ _ eL
  iexists _; isplitr
  swap; · iexact HT
  ipureintro
  exact fin1 _ _ i _ _ eT

/-- What a point leaves in the first result's buffer: the log-sum-exp at the last vocabulary tile, else what it found. -/
def out5 (i : grid0.Coords) (x0 : Vec F S2048x1280 .fp8e4m3) (x1 : Vec F S2048x1 .f32) (x2 : Vec F S512x1280 .fp8e4m3) (x3 : Vec F S1x512 .f32)
    (M L : Vec F S8x16384 .f32) (y : Vec F S1x512 .f32) : Vec F S1x512 .f32 :=
  if k0_cond2 i = 1#1 then k0_pay5 (newM i x0 x1 x2 x3 M) (newL i x0 x1 x2 x3 M L) else y

/-- What a point leaves in the second result's buffer: the target logit at the last vocabulary tile, else what it found. -/
def out6 (i : grid0.Coords) (x0 : Vec F S2048x1280 .fp8e4m3) (x1 : Vec F S2048x1 .f32) (x2 : Vec F S512x1280 .fp8e4m3) (x3 : Vec F S1x512 .f32) (x4 : Vec F S1x512 .i32)
    (T : Vec F S8x16384 .f32) (y : Vec F S1x512 .f32) : Vec F S1x512 .f32 :=
  if k0_cond2 i = 1#1 then k0_pay6 (newT i x0 x1 x2 x3 x4 T) else y

/-- The body at any point. -/
theorem sound_kernel (c : Dev nD) (E : Set ℕ) (i : grid0.Coords)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare (out5 i x0 x1 x2 x3 M L y5) ∗ owns (c : Thread nD τ) arg8 fullShare (out6 i x0 x1 x2 x3 x4 T y6)
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  by_cases h1 : k0_cond1 i = 1#1
  · have h2 : ¬ k0_cond2 i = 1#1 := fun h => by rw [cond1_iff] at h1; rw [cond2_iff] at h; omega
    unfold out5 out6; rw [if_neg h2, if_neg h2]
    exact run_first c E i h1 h2 arg2 harg2 arg3 harg3 arg4 harg4 arg5 harg5 arg6 harg6 arg7 harg7 arg8 harg8 arg9 harg9 arg10 harg10 arg11 harg11 x0 x1 x2 x3 x4 y5 y6 M L T K
  · by_cases h2 : k0_cond2 i = 1#1
    · unfold out5 out6; rw [if_pos h2, if_pos h2]
      exact run_last c E i h1 h2 arg2 harg2 arg3 harg3 arg4 harg4 arg5 harg5 arg6 harg6 arg7 harg7 arg8 harg8 arg9 harg9 arg10 harg10 arg11 harg11 x0 x1 x2 x3 x4 y5 y6 M L T K
    · unfold out5 out6; rw [if_neg h2, if_neg h2]
      exact run_middle c E i h1 h2 arg2 harg2 arg3 harg3 arg4 harg4 arg5 harg5 arg6 harg6 arg7 harg7 arg8 harg8 arg9 harg9 arg10 harg10 arg11 harg11 x0 x1 x2 x3 x4 y5 y6 M L T K

end Cert.Kernel.Hand

end
-- ==== Proof.BRun.lean ====
/- The run of the `head` kernel's pipeline, for any invariant of the scratch buffers that the body keeps. -/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.VecWindow
public import proofs.«01_k».proof.Proof.BBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What an input window's buffer may hold at a point: the array's block, where the fetch fills it, and anything elsewhere. -/
def ftc (c : Dev nD) (w : Fin cfg0.W) (t : Fin cfg0.N) (d : (cfg0.win w).block.Idx → Elt F (cfg0.win w).elt) : (cfg0.win w).block.Idx → Elt F (cfg0.win w).elt :=
  (cfg0.win w).fill (cfg0.grid.coords t) d (((cfg0.win w).blk t).view.read (Elt F) (V m c (Pipeline.arrRef spec0 w)))

/-- What is claimed of the run, point by point: a predicate of the three scratch buffers before each point, and one of each result's block after each point. -/
structure Track (F : FTy → Type) where
  inv : Dev nD → Fin (cfg0.N + 1) → Vec F S8x16384 .f32 → Vec F S8x16384 .f32 → Vec F S8x16384 .f32 → Prop
  res5 : Dev nD → Fin cfg0.N → Vec F S1x512 .f32 → Prop
  res6 : Dev nD → Fin cfg0.N → Vec F S1x512 .f32 → Prop

/-- The predicates hold at the start and every point keeps them. -/
structure Track.Holds (I : Track F) : Prop where
  start : ∀ c M L T, I.inv c 0 M L T
  step : ∀ c (t : Fin cfg0.N) d0 d1 d2 d3 d4 M L T (y5 y6 : Vec F S1x512 .f32), I.inv c t.castSucc M L T →
    I.inv c t.succ
      (upd (grid0.coords t) M (newM (grid0.coords t) (ftc m c 0 t d0) (ftc m c 1 t d1) (ftc m c 2 t d2) (ftc m c 3 t d3) M))
      (upd (grid0.coords t) L (newL (grid0.coords t) (ftc m c 0 t d0) (ftc m c 1 t d1) (ftc m c 2 t d2) (ftc m c 3 t d3) M L))
      (upd (grid0.coords t) T (newT (grid0.coords t) (ftc m c 0 t d0) (ftc m c 1 t d1) (ftc m c 2 t d2) (ftc m c 3 t d3) (ftc m c 4 t d4) T))
    ∧ I.res5 c t (out5 (grid0.coords t) (ftc m c 0 t d0) (ftc m c 1 t d1) (ftc m c 2 t d2) (ftc m c 3 t d3) M L y5)
    ∧ I.res6 c t (out6 (grid0.coords t) (ftc m c 0 t d0) (ftc m c 1 t d1) (ftc m c 2 t d2) (ftc m c 3 t d3) (ftc m c 4 t d4) T y6)

variable (I : Track F)

/-- The invariant between points: the scratch buffers at contents the predicate allows, the generator register at some state. -/
def Phi (c : Dev nD) (t : Fin (cfg0.N + 1)) : sProp 𝕄 :=
  iprop(∃ M L T, ⌜I.inv c t M L T⌝ ∗ owns (c : Thread nD τ) (Memref.whole cc0_scratch0) fullShare M ∗ owns (c : Thread nD τ) (Memref.whole cc0_scratch1) fullShare L
    ∗ owns (c : Thread nD τ) (Memref.whole cc0_scratch2) fullShare T ∗ ∃ r, prngReg c r)

/-- The pipeline's proof data on core `c`: the inputs' buffers left as found, the results' as the predicates say. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => I.res5 c t X
    | ⟨6, _⟩ => I.res6 c t X
  Φ t := Phi I c t
  q _ := fullShare
  owed _ := 0

theorem A_eq (c : Dev nD) (w : Fin cfg0.W) : (rdat m I c).A w = V m c (Pipeline.arrRef spec0 w) := by dsimp only [rdat]

theorem Phi_eq (c : Dev nD) (t : Fin (cfg0.N + 1)) : (rdat m I c).Φ t = Phi I c t := by dsimp only [rdat]

theorem after0 (c : Dev nD) (t : Fin cfg0.N) (Y X) : (rdat m I c).after 0 t Y X = (X = Y) := by dsimp only [rdat]
theorem after1 (c : Dev nD) (t : Fin cfg0.N) (Y X) : (rdat m I c).after 1 t Y X = (X = Y) := by dsimp only [rdat]
theorem after2 (c : Dev nD) (t : Fin cfg0.N) (Y X) : (rdat m I c).after 2 t Y X = (X = Y) := by dsimp only [rdat]
theorem after3 (c : Dev nD) (t : Fin cfg0.N) (Y X) : (rdat m I c).after 3 t Y X = (X = Y) := by dsimp only [rdat]
theorem after4 (c : Dev nD) (t : Fin cfg0.N) (Y X) : (rdat m I c).after 4 t Y X = (X = Y) := by dsimp only [rdat]
theorem after5 (c : Dev nD) (t : Fin cfg0.N) (Y X) : (rdat m I c).after 5 t Y X = I.res5 c t X := by dsimp only [rdat]
theorem after6 (c : Dev nD) (t : Fin cfg0.N) (Y X) : (rdat m I c).after 6 t Y X = I.res6 c t X := by dsimp only [rdat]

theorem fetched_eq (c : Dev nD) (w : Fin cfg0.W) (t : Fin cfg0.N) (d) : (rdat m I c).fetched w t d = ftc m c w t d := by
  unfold RDat.fetched RDat.blockOf ftc; rw [A_eq]

/-- Input window 0's buffer at a point. -/
theorem finds0 (c : Dev nD) (t : Fin cfg0.N) (Y) (h : (rdat m I c).Finds 0 t Y) : ∃ d, Y = ftc m c 0 t d := by
  obtain ⟨d, hd⟩ := RDat.finds_in_eq_fetched (rdat m I c) 0 rfl (fun t t' h => funext fun a => congrArg (fun k : Fin 2 → ℕ => Pipeline.Clip.of (k a) (S2048x1280.size a) (S50260x1280.size a)) h)
    (fun t Y X hX => by rw [after0] at hX; exact hX) t Y h
  exact ⟨d, hd.trans (fetched_eq m I c 0 t d)⟩
/-- Input window 1's buffer at a point. -/
theorem finds1 (c : Dev nD) (t : Fin cfg0.N) (Y) (h : (rdat m I c).Finds 1 t Y) : ∃ d, Y = ftc m c 1 t d := by
  obtain ⟨d, hd⟩ := RDat.finds_in_eq_fetched (rdat m I c) 1 rfl (fun t t' h => funext fun a => congrArg (fun k : Fin 2 → ℕ => Pipeline.Clip.of (k a) (S2048x1.size a) (S50257x1.size a)) h)
    (fun t Y X hX => by rw [after1] at hX; exact hX) t Y h
  exact ⟨d, hd.trans (fetched_eq m I c 1 t d)⟩
/-- Input window 2's buffer at a point. -/
theorem finds2 (c : Dev nD) (t : Fin cfg0.N) (Y) (h : (rdat m I c).Finds 2 t Y) : ∃ d, Y = ftc m c 2 t d := by
  obtain ⟨d, hd⟩ := RDat.finds_in_eq_fetched (rdat m I c) 2 rfl (fun _ _ _ => rfl)
    (fun t Y X hX => by rw [after2] at hX; exact hX) t Y h
  exact ⟨d, hd.trans (fetched_eq m I c 2 t d)⟩
/-- Input window 3's buffer at a point. -/
theorem finds3 (c : Dev nD) (t : Fin cfg0.N) (Y) (h : (rdat m I c).Finds 3 t Y) : ∃ d, Y = ftc m c 3 t d := by
  obtain ⟨d, hd⟩ := RDat.finds_in_eq_fetched (rdat m I c) 3 rfl (fun _ _ _ => rfl)
    (fun t Y X hX => by rw [after3] at hX; exact hX) t Y h
  exact ⟨d, hd.trans (fetched_eq m I c 3 t d)⟩
/-- Input window 4's buffer at a point. -/
theorem finds4 (c : Dev nD) (t : Fin cfg0.N) (Y) (h : (rdat m I c).Finds 4 t Y) : ∃ d, Y = ftc m c 4 t d := by
  obtain ⟨d, hd⟩ := RDat.finds_in_eq_fetched (rdat m I c) 4 rfl (fun _ _ _ => rfl)
    (fun t Y X hX => by rw [after4] at hX; exact hX) t Y h
  exact ⟨d, hd.trans (fetched_eq m I c 4 t d)⟩

/-! ## The body obligation -/

/-- What the body is called with at a point, -/
def bodyPre (c : Dev nD) (t : Fin cfg0.N) (Y : (w : Fin cfg0.W) → (cfg0.win w).block.Idx → Elt F (cfg0.win w).elt) : sProp 𝕄 :=
  iprop((rdat m I c).Φ t.castSucc ∗ (rdat m I c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m I c).Φ t.succ ∗ (rdat m I c).owesAt () t.succ
    ∗ (∃ X, ⌜(rdat m I c).after 0 t (Y 0) X⌝ ∗ owns (c : Thread nD τ) (st0_0 t) fullShare X)
    ∗ (∃ X, ⌜(rdat m I c).after 1 t (Y 1) X⌝ ∗ owns (c : Thread nD τ) (st0_1 t) fullShare X)
    ∗ (∃ X, ⌜(rdat m I c).after 2 t (Y 2) X⌝ ∗ owns (c : Thread nD τ) (st0_2 t) fullShare X)
    ∗ (∃ X, ⌜(rdat m I c).after 3 t (Y 3) X⌝ ∗ owns (c : Thread nD τ) (st0_3 t) fullShare X)
    ∗ (∃ X, ⌜(rdat m I c).after 4 t (Y 4) X⌝ ∗ owns (c : Thread nD τ) (st0_4 t) fullShare X)
    ∗ (∃ X, ⌜(rdat m I c).after 5 t (Y 5) X⌝ ∗ owns (c : Thread nD τ) (st0_5 t) fullShare X)
    ∗ (∃ X, ⌜(rdat m I c).after 6 t (Y 6) X⌝ ∗ owns (c : Thread nD τ) (st0_6 t) fullShare X))

/-- The body at any point. -/
theorem sound_body (hI : I.Holds m) (c : Dev nD) (t : Fin cfg0.N) (Y : (w : Fin cfg0.W) → (cfg0.win w).block.Idx → Elt F (cfg0.win w).elt)
    (hY : ∀ w, (rdat m I c).Finds w t (Y w)) :
    bodyPre m I c t Y ⊢ wp frame (wpE (defs₀ (F := F)) Variants.none c none) Set.univ (bodyAt0 t) (fun _ => bodyPost m I c t Y) := by
  obtain ⟨d0, e0⟩ := finds0 m I c t (Y 0) (hY 0)
  obtain ⟨d1, e1⟩ := finds1 m I c t (Y 1) (hY 1)
  obtain ⟨d2, e2⟩ := finds2 m I c t (Y 2) (hY 2)
  obtain ⟨d3, e3⟩ := finds3 m I c t (Y 3) (hY 3)
  obtain ⟨d4, e4⟩ := finds4 m I c t (Y 4) (hY 4)
  unfold bodyPre bodyPost bodyAt0
  rw [show (rdat m I c).owesAt () t.succ = (rdat m I c).owesAt () t.castSucc from rfl, Phi_eq, Phi_eq]
  unfold Phi
  simp only [after0, after1, after2, after3, after4, after5, after6]
  rw [e0, e1, e2, e3, e4]
  iintro ⟨⟨%M, %L, %T, %hinv, HM, HL, HT, Hr⟩, Ho, H0, H1, H2, H3, H4, H5, H6⟩
  have hs := hI.step c t d0 d1 d2 d3 d4 M L T (Y 5) (Y 6) hinv
  iapply (sound_kernel c Set.univ (grid0.coords t) _ _ _ _ _ _ _ _ _ _ _ _ _ _ _ _ _ _ _ _ (ftc m c 0 t d0) (ftc m c 1 t d1) (ftc m c 2 t d2) (ftc m c 3 t d3) (ftc m c 4 t d4) (Y 5) (Y 6) M L T _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HM]; · iexact HM
  isplitl [HL]; · iexact HL
  isplitl [HT]; · iexact HT
  iintro ⟨H0, H1, H2, H3, H4, H5, H6, HM, HL, HT⟩
  isplitl [HM HL HT Hr]
  · iexists _, _, _; isplitr; · ipureintro; exact hs.1
    isplitl [HM]; · iexact HM
    isplitl [HL]; · iexact HL
    isplitl [HT]; · iexact HT
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact hs.2.1
  iexists _; isplitr; swap; · iexact H6
  ipureintro; exact hs.2.2

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (hI : I.Holds m) (c : Dev nD) : (rdat m I c).BodyObligation (defs₀ (F := F)) Variants.none () Set.univ := fun t Y hY => by
  rw [bigSep_W0, bigSep_W0, defs₀_row]
  exact triple_restated (sound_body m I hI c t Y hY) rfl .rfl fun _ => .rfl

/-! ## The launch -/

/-- The scratch buffers at any contents give the invariant before the first point. -/
theorem phi_in (hI : I.Holds m) (c : Dev nD) : Pipeline.ΦA (Val := Elt F) (U := UR sig nD τ) spec0 c ⊢ (rdat m I c).Φ 0 := by
  rw [Phi_eq]; unfold Pipeline.ΦA Phi
  rw [scopedRest0_eq]
  simp only [owns_whole]
  iintro ⟨⟨⟨%M, HM⟩, ⟨%L, HL⟩, ⟨%T, HT⟩⟩, Hr⟩
  iexists M, L, T
  isplitr; · ipureintro; exact hI.start c M L T
  isplitl [HM]; · iexact HM
  isplitl [HL]; · iexact HL
  isplitl [HT]; · iexact HT
  iexact Hr

/-- The invariant after the last point gives the scratch buffers back. -/
theorem phi_out (c : Dev nD) : (rdat m I c).Φ (Fin.last cfg0.N) ⊢ Pipeline.ΦA (Val := Elt F) (U := UR sig nD τ) spec0 c := by
  rw [Phi_eq]; unfold Pipeline.ΦA Phi
  rw [scopedRest0_eq]
  simp only [owns_whole]
  iintro ⟨%M, %L, %T, -, HM, HL, HT, Hr⟩
  isplitl [HM HL HT]
  · isplitl [HM]; · iexists M; iexact HM
    isplitl [HL]; · iexists L; iexact HL
    iexists T; iexact HT
  iexact Hr

set_option backward.isDefEq.respectTransparency.types false in
set_option maxHeartbeats 800000 in
/-- Every fair execution terminates, with the pipeline's arrays as the proof data allows, every other buffer as the region found it and every counter at zero. -/
theorem run_main (hI : I.Holds m) : θ_run defs (onTc (τ := τ) (main (F := F))) (s₀ m ρ)
    (fun r => Pipeline.RDat.FramePost (cfgs 0) (fun c => rdat m I c) (V m) r ∧ r.2.sem = fun _ => 0) :=
  Pipeline.RDat.θ_run_frame_track (Q' := _) cfgs (0 : Fin 1) launch0 defs₀ Variants.none (fun c => rdat m I c) m ρ main
    (hbody := fun c => body_obligation m I hI c) (hshare := fun c w => by unfold RDat.share; split <;> rfl)
    (howed := fun _ _ => rfl) (V := V m) (hmain := hmain m Variants.none) (hA := A_eq m I)
    (hin := phi_in m I hI) (hout := phi_out m I)

variable {m}

/-- The argument arrays end as launched. -/
theorem unchanged_of (r : PUnit × MemSt nD τ sig (Elt F)) (h : Pipeline.RDat.FramePost (cfgs 0) (fun c => rdat m I c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

variable (m)

/-- Nothing claimed. -/
def trivialTrack : Track F := ⟨fun _ _ _ _ _ => True, fun _ _ _ => True, fun _ _ _ => True⟩

theorem trivial_holds : (trivialTrack (F := F)).Holds m := ⟨fun _ _ _ _ => trivial, fun _ _ _ _ _ _ _ _ _ _ _ _ _ => ⟨trivial, trivial, trivial⟩⟩

/-- The frame: the run terminates, the argument arrays end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => unchanged_of trivialTrack r h.1 c, h.2⟩) (run_main m ρ trivialTrack (trivial_holds m))

end Cert.Kernel.Hand

end
-- ==== Proof.KBody.lean ====
/- The body of the `head` kernel, run once per control case at a symbolic grid point. -/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]

local notation "𝕄" => MT nD τ sig Unit (Elt F) ℕ (UR sig nD τ) ℕ

/-- The lane offset of a point's row tile in the scratch buffers. -/
abbrev off (i : grid0.Coords) : Fin 2 → ℕ := ![0, 512 * (i 1).val]

theorem off_inb (i : grid0.Coords) : ∀ a, off i a + S8x512.size a ≤ S8x16384.size a := by
  intro a; have h := k0_off2_inb i a; rw [k0_off2_eq i] at h; exact h

/-- The row tile's block of a scratch buffer. -/
def blk (i : grid0.Coords) (x : Vec F S8x16384 .f32) : Vec F S8x512 .f32 :=
  VecWindow.window (s := S8x16384) x (off i) S8x512.size (off_inb i)

/-- A scratch buffer with the row tile's block replaced. -/
def upd (i : grid0.Coords) (x : Vec F S8x16384 .f32) (w : Vec F S8x512 .f32) : Vec F S8x16384 .f32 :=
  VecWindow.put (s := S8x16384) x (off i) S8x512.size w

/-- What the row tile's block of a scratch buffer holds when the accumulation starts: `z` at the first vocabulary tile, what the buffer held at the later ones. -/
def ent (i : grid0.Coords) (z : Vec F S8x512 .f32) (x : Vec F S8x16384 .f32) : Vec F S8x512 .f32 :=
  if k0_cond1 i = 1#1 then z else blk i x

theorem ent_pos {i : grid0.Coords} (h : k0_cond1 i = 1#1) (z : Vec F S8x512 .f32) (x : Vec F S8x16384 .f32) : ent i z x = z := if_pos h
theorem ent_neg {i : grid0.Coords} (h : ¬ k0_cond1 i = 1#1) (z : Vec F S8x512 .f32) (x : Vec F S8x16384 .f32) : ent i z x = blk i x := if_neg h

/-- The condition of the first branch: the first vocabulary tile. -/
theorem cond1_iff (i : grid0.Coords) : Iff (k0_cond1 i = 1#1) ((i 0).val = 0) := by
  have h : ∀ a : Fin 25, Iff (Scalar.cmpi .ne (Scalar.extui (Scalar.cmpi .eq (BitVec.ofNat 32 a.val) 0#32) : BitVec 32) 0#32 = 1#1) (a.val = 0) := by decide
  exact h (i 0)

/-- The condition of the last branch: the last vocabulary tile. -/
theorem cond2_iff (i : grid0.Coords) : Iff (k0_cond2 i = 1#1) ((i 0).val = 24) := by
  have h : ∀ a : Fin 25, Iff (Scalar.cmpi .ne (Scalar.extui (Scalar.cmpi .eq (BitVec.ofNat 32 a.val) 24#32) : BitVec 32) 0#32 = 1#1) (a.val = 24) := by decide
  exact h (i 0)

/-! ## What the point leaves in its row tile's blocks -/

section New
variable (i : grid0.Coords) (x0 : Vec F S2048x1280 .fp8e4m3) (x1 : Vec F S2048x1 .f32) (x2 : Vec F S512x1280 .fp8e4m3) (x3 : Vec F S1x512 .f32) (x4 : Vec F S1x512 .i32)
  (M L T : Vec F S8x16384 .f32)

/-- The running maximum after the point. -/
def newM : Vec F S8x512 .f32 := k0_pay4 (k0_pay13 i x0 x2 x1 x3) (ent i k0_pay7 M)
/-- The running sum of exponentials after the point. -/
def newL : Vec F S8x512 .f32 := k0_pay3 (k0_pay13 i x0 x2 x1 x3) (ent i k0_pay7 M) (ent i k0_pay8 L)
/-- The running target logit after the point. -/
def newT : Vec F S8x512 .f32 := k0_pay1 (k0_pay12 i x0 x2 x1 x3 x4) (ent i k0_pay9 T)
end New

/-! ## Reads after stores -/

section Reads
variable {sp : Space} (v : View sig .tc sp S8x16384 .f32) (f : v.ty.Contents (Elt F)) (i : grid0.Coords)

/-- The block read after one store over it. -/
theorem cov1 (h1 : k0_cond1 i = 1#1) (w : Vec F S8x512 .f32) :
    v.readCov (Val := Elt F) [⟨Rect.unit (s := S8x16384) (k0_off1 i) S8x512.size (k0_off1_inb i h1), w⟩] (Rect.unit (s := S8x16384) (k0_off2 i) S8x512.size (k0_off2_inb i)).toLoadRect = w := by
  unfold View.readCov
  rw [View.readAt_unit v _ _ (k0_off2_eq i) (off_inb i), View.read_writes_cons_put v _ _ _ _ (k0_off1_eq i)]
  exact VecWindow.window_put_same (s := S8x16384) _ _ _ _ _

/-- The block read at the end after the store over it. -/
theorem cov3 (h2 : k0_cond2 i = 1#1) (w : Vec F S8x512 .f32) :
    v.readCov (Val := Elt F) [⟨Rect.unit (s := S8x16384) (k0_off2 i) S8x512.size (k0_off2_inb i), w⟩] (Rect.unit (s := S8x16384) (k0_off3 i) S8x512.size (k0_off3_inb i h2)).toLoadRect = w := by
  unfold View.readCov
  rw [View.readAt_unit v _ _ (k0_off3_eq i) (off_inb i), View.read_writes_cons_put v _ _ _ _ (k0_off2_eq i)]
  exact VecWindow.window_put_same (s := S8x16384) _ _ _ _ _

/-- The block read before any store. -/
theorem read2 : v.readAt (Elt F) (Rect.unit (s := S8x16384) (k0_off2 i) S8x512.size (k0_off2_inb i)).toLoadRect f = blk i (v.read (Elt F) f) :=
  View.readAt_unit v _ _ (k0_off2_eq i) (off_inb i)

/-- The buffer after one store over the block. -/
theorem fin1 (w w' : Vec F S8x512 .f32) (hw : w = w') :
    v.read (Elt F) (v.writes (Elt F) f [⟨Rect.unit (s := S8x16384) (k0_off2 i) S8x512.size (k0_off2_inb i), w⟩]) = upd i (v.read (Elt F) f) w' := by
  subst hw; exact View.read_writes_cons_put v _ _ _ _ (k0_off2_eq i)

/-- The buffer after two stores over the block: the later one's payload. -/
theorem fin2 (h1 : k0_cond1 i = 1#1) (w w' z : Vec F S8x512 .f32) (hw : w = w') :
    v.read (Elt F) (v.writes (Elt F) f [⟨Rect.unit (s := S8x16384) (k0_off2 i) S8x512.size (k0_off2_inb i), w⟩, ⟨Rect.unit (s := S8x16384) (k0_off1 i) S8x512.size (k0_off1_inb i h1), z⟩])
      = upd i (v.read (Elt F) f) w' := by
  subst hw
  rw [View.read_writes_cons_put v _ _ _ _ (k0_off2_eq i), View.read_writes_cons_put v _ _ _ _ (k0_off1_eq i)]
  exact VecWindow.put_put_same (s := S8x16384) _ _ _ _ _
end Reads

set_option maxHeartbeats 4000000 in
/-- The body at a point of the first vocabulary tile. -/
theorem run_first (c : Dev nD) (E : Set ℕ) (i : grid0.Coords) (h1 : k0_cond1 i = 1#1) (h2 : ¬ k0_cond2 i = 1#1)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fM, %hfM, HM⟩, ⟨%fL, %hfL, HL⟩, ⟨%fT, %hfT, HT⟩, Hk⟩
  subst hf0 hf1 hf2 hf3 hf4 hf5 hf6 hfM hfL hfT
  have eM : k0_pay4 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readCov arg9.view [⟨Rect.unit (s := S8x16384) (k0_off1 i) S8x512.size (k0_off1_inb i h1), k0_pay7⟩] (Rect.unit (s := S8x16384) (k0_off2 i) S8x512.size (k0_off2_inb i)).toLoadRect) = newM i (View.read _ arg2.view f0) (View.read _ arg3.view f1) (View.read _ arg4.view f2) (View.read _ arg5.view f3) (View.read _ arg9.view fM) := by
    unfold newM; rw [ent_pos h1, View.readAt_full, View.readAt_full, View.readAt_full, View.readAt_full, cov1 _ i h1]
  have eL : k0_pay3 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readCov arg9.view [⟨Rect.unit (s := S8x16384) (k0_off1 i) S8x512.size (k0_off1_inb i h1), k0_pay7⟩] (Rect.unit (s := S8x16384) (k0_off2 i) S8x512.size (k0_off2_inb i)).toLoadRect) (View.readCov arg10.view [⟨Rect.unit (s := S8x16384) (k0_off1 i) S8x512.size (k0_off1_inb i h1), k0_pay8⟩] (Rect.unit (s := S8x16384) (k0_off2 i) S8x512.size (k0_off2_inb i)).toLoadRect) = newL i (View.read _ arg2.view f0) (View.read _ arg3.view f1) (View.read _ arg4.view f2) (View.read _ arg5.view f3) (View.read _ arg9.view fM) (View.read _ arg10.view fL) := by
    unfold newL; rw [ent_pos h1, ent_pos h1, View.readAt_full, View.readAt_full, View.readAt_full, View.readAt_full, cov1 _ i h1, cov1 _ i h1]
  have eT : k0_pay1 (F := F) (k0_pay12 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3) (View.readAt _ arg6.view (Rect.unit ![0, 0] S1x512.size inb_S1x512_S1x512_0_0).toLoadRect f4)) (View.readCov arg11.view [⟨Rect.unit (s := S8x16384) (k0_off1 i) S8x512.size (k0_off1_inb i h1), k0_pay9⟩] (Rect.unit (s := S8x16384) (k0_off2 i) S8x512.size (k0_off2_inb i)).toLoadRect) = newT i (View.read _ arg2.view f0) (View.read _ arg3.view f1) (View.read _ arg4.view f2) (View.read _ arg5.view f3) (View.read _ arg6.view f4) (View.read _ arg11.view fT) := by
    unfold newT; rw [ent_pos h1, View.readAt_full, View.readAt_full, View.readAt_full, View.readAt_full, View.readAt_full, cov1 _ i h1]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HM]
  · iexists _; isplitr
    swap; · iexact HM
    ipureintro
    exact fin2 _ _ i h1 _ _ _ eM
  isplitl [HL]
  · iexists _; isplitr
    swap; · iexact HL
    ipureintro
    exact fin2 _ _ i h1 _ _ _ eL
  iexists _; isplitr
  swap; · iexact HT
  ipureintro
  exact fin2 _ _ i h1 _ _ _ eT

set_option maxHeartbeats 4000000 in
/-- The body at a point of a vocabulary tile that is neither the first nor the last. -/
theorem run_middle (c : Dev nD) (E : Set ℕ) (i : grid0.Coords) (h1 : ¬ k0_cond1 i = 1#1) (h2 : ¬ k0_cond2 i = 1#1)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fM, %hfM, HM⟩, ⟨%fL, %hfL, HL⟩, ⟨%fT, %hfT, HT⟩, Hk⟩
  subst hf0 hf1 hf2 hf3 hf4 hf5 hf6 hfM hfL hfT
  have eM : k0_pay4 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) = newM i (View.read _ arg2.view f0) (View.read _ arg3.view f1) (View.read _ arg4.view f2) (View.read _ arg5.view f3) (View.read _ arg9.view fM) := by
    unfold newM; rw [ent_neg h1, View.readAt_full, View.readAt_full, View.readAt_full, View.readAt_full, read2]
  have eL : k0_pay3 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) (View.readAt _ arg10.view (Rect.unit (s := S8x16384) (k0_off2 i) S8x512.size (k0_off2_inb i)).toLoadRect fL) = newL i (View.read _ arg2.view f0) (View.read _ arg3.view f1) (View.read _ arg4.view f2) (View.read _ arg5.view f3) (View.read _ arg9.view fM) (View.read _ arg10.view fL) := by
    unfold newL; rw [ent_neg h1, ent_neg h1, View.readAt_full, View.readAt_full, View.readAt_full, View.readAt_full, read2, read2]
  have eT : k0_pay1 (F := F) (k0_pay12 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3) (View.readAt _ arg6.view (Rect.unit ![0, 0] S1x512.size inb_S1x512_S1x512_0_0).toLoadRect f4)) (View.readAt _ arg11.view (Rect.unit (s := S8x16384) (k0_off2 i) S8x512.size (k0_off2_inb i)).toLoadRect fT) = newT i (View.read _ arg2.view f0) (View.read _ arg3.view f1) (View.read _ arg4.view f2) (View.read _ arg5.view f3) (View.read _ arg6.view f4) (View.read _ arg11.view fT) := by
    unfold newT; rw [ent_neg h1, View.readAt_full, View.readAt_full, View.readAt_full, View.readAt_full, View.readAt_full, read2]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HM]
  · iexists _; isplitr
    swap; · iexact HM
    ipureintro
    exact fin1 _ _ i _ _ eM
  isplitl [HL]
  · iexists _; isplitr
    swap; · iexact HL
    ipureintro
    exact fin1 _ _ i _ _ eL
  iexists _; isplitr
  swap; · iexact HT
  ipureintro
  exact fin1 _ _ i _ _ eT

set_option maxHeartbeats 4000000 in
/-- The body at a point of the last vocabulary tile: the two results' blocks are stored. -/
theorem run_last (c : Dev nD) (E : Set ℕ) (i : grid0.Coords) (h1 : ¬ k0_cond1 i = 1#1) (h2 : k0_cond2 i = 1#1)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare (k0_pay5 (newM i x0 x1 x2 x3 M) (newL i x0 x1 x2 x3 M L)) ∗ owns (c : Thread nD τ) arg8 fullShare (k0_pay6 (newT i x0 x1 x2 x3 x4 T))
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  simp only [cc0_head_eq_skeleton]; unfold cc0_head_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fM, %hfM, HM⟩, ⟨%fL, %hfL, HL⟩, ⟨%fT, %hfT, HT⟩, Hk⟩
  subst hf0 hf1 hf2 hf3 hf4 hf5 hf6 hfM hfL hfT
  have eM : k0_pay4 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) = newM i (View.read _ arg2.view f0) (View.read _ arg3.view f1) (View.read _ arg4.view f2) (View.read _ arg5.view f3) (View.read _ arg9.view fM) := by
    unfold newM; rw [ent_neg h1, View.readAt_full, View.readAt_full, View.readAt_full, View.readAt_full, read2]
  have eL : k0_pay3 (F := F) (k0_pay13 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3)) (View.readAt _ arg9.view (Rect.unit (s := S8x16384) (k0_off2 i) S8x512.size (k0_off2_inb i)).toLoadRect fM) (View.readAt _ arg10.view (Rect.unit (s := S8x16384) (k0_off2 i) S8x512.size (k0_off2_inb i)).toLoadRect fL) = newL i (View.read _ arg2.view f0) (View.read _ arg3.view f1) (View.read _ arg4.view f2) (View.read _ arg5.view f3) (View.read _ arg9.view fM) (View.read _ arg10.view fL) := by
    unfold newL; rw [ent_neg h1, ent_neg h1, View.readAt_full, View.readAt_full, View.readAt_full, View.readAt_full, read2, read2]
  have eT : k0_pay1 (F := F) (k0_pay12 i (View.readAt _ arg2.view (Rect.unit ![0, 0] S2048x1280.size inb_S2048x1280_S2048x1280_0_0).toLoadRect f0) (View.readAt _ arg4.view (Rect.unit ![0, 0] S512x1280.size inb_S512x1280_S512x1280_0_0).toLoadRect f2) (View.readAt _ arg3.view (Rect.unit ![0, 0] S2048x1.size inb_S2048x1_S2048x1_0_0).toLoadRect f1) (View.readAt _ arg5.view (Rect.unit ![0, 0] S1x512.size inb_S1x512_S1x512_0_0).toLoadRect f3) (View.readAt _ arg6.view (Rect.unit ![0, 0] S1x512.size inb_S1x512_S1x512_0_0).toLoadRect f4)) (View.readAt _ arg11.view (Rect.unit (s := S8x16384) (k0_off2 i) S8x512.size (k0_off2_inb i)).toLoadRect fT) = newT i (View.read _ arg2.view f0) (View.read _ arg3.view f1) (View.read _ arg4.view f2) (View.read _ arg5.view f3) (View.read _ arg6.view f4) (View.read _ arg11.view fT) := by
    unfold newT; rw [ent_neg h1, View.readAt_full, View.readAt_full, View.readAt_full, View.readAt_full, View.readAt_full, read2]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ _).trans ?_
    exact congrArg₂ (k0_pay5 (F := F)) ((cov3 _ i h2 _).trans eM) ((cov3 _ i h2 _).trans eL)
  isplitl [H6]
  · iexists _; isplitr
    swap; · iexact H6
    ipureintro
    refine (View.read_writes_full _ _ _ _ _).trans ?_
    exact congrArg (k0_pay6 (F := F)) ((cov3 _ i h2 _).trans eT)
  isplitl [HM]
  · iexists _; isplitr
    swap; · iexact HM
    ipureintro
    exact fin1 _ _ i _ _ eM
  isplitl [HL]
  · iexists _; isplitr
    swap; · iexact HL
    ipureintro
    exact fin1 _ _ i _ _ eL
  iexists _; isplitr
  swap; · iexact HT
  ipureintro
  exact fin1 _ _ i _ _ eT

/-- What a point leaves in the first result's buffer: the log-sum-exp at the last vocabulary tile, else what it found. -/
def out5 (i : grid0.Coords) (x0 : Vec F S2048x1280 .fp8e4m3) (x1 : Vec F S2048x1 .f32) (x2 : Vec F S512x1280 .fp8e4m3) (x3 : Vec F S1x512 .f32)
    (M L : Vec F S8x16384 .f32) (y : Vec F S1x512 .f32) : Vec F S1x512 .f32 :=
  if k0_cond2 i = 1#1 then k0_pay5 (newM i x0 x1 x2 x3 M) (newL i x0 x1 x2 x3 M L) else y

/-- What a point leaves in the second result's buffer: the target logit at the last vocabulary tile, else what it found. -/
def out6 (i : grid0.Coords) (x0 : Vec F S2048x1280 .fp8e4m3) (x1 : Vec F S2048x1 .f32) (x2 : Vec F S512x1280 .fp8e4m3) (x3 : Vec F S1x512 .f32) (x4 : Vec F S1x512 .i32)
    (T : Vec F S8x16384 .f32) (y : Vec F S1x512 .f32) : Vec F S1x512 .f32 :=
  if k0_cond2 i = 1#1 then k0_pay6 (newT i x0 x1 x2 x3 x4 T) else y

/-- The body at any point. -/
theorem sound_kernel (c : Dev nD) (E : Set ℕ) (i : grid0.Coords)
    (arg2 : Memref sig .tc .vmem S2048x1280 .fp8e4m3) (harg2 : arg2.IsWhole) (arg3 : Memref sig .tc .vmem S2048x1 .f32) (harg3 : arg3.IsWhole) (arg4 : Memref sig .tc .vmem S512x1280 .fp8e4m3) (harg4 : arg4.IsWhole) (arg5 : Memref sig .tc .vmem S1x512 .f32) (harg5 : arg5.IsWhole) (arg6 : Memref sig .tc .vmem S1x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x16384 .f32) (harg9 : arg9.IsWhole) (arg10 : Memref sig .tc .vmem S8x16384 .f32) (harg10 : arg10.IsWhole) (arg11 : Memref sig .tc .vmem S8x16384 .f32) (harg11 : arg11.IsWhole)
    (x0 : Vec F S2048x1280 .fp8e4m3) (x1 : Vec F S2048x1 .f32) (x2 : Vec F S512x1280 .fp8e4m3) (x3 : Vec F S1x512 .f32) (x4 : Vec F S1x512 .i32)
    (y5 y6 : Vec F S1x512 .f32) (M L T : Vec F S8x16384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ owns (c : Thread nD τ) arg8 fullShare y6
        ∗ owns (c : Thread nD τ) arg9 fullShare M ∗ owns (c : Thread nD τ) arg10 fullShare L ∗ owns (c : Thread nD τ) arg11 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare (out5 i x0 x1 x2 x3 M L y5) ∗ owns (c : Thread nD τ) arg8 fullShare (out6 i x0 x1 x2 x3 x4 T y6)
        ∗ owns (c : Thread nD τ) arg9 fullShare (upd i M (newM i x0 x1 x2 x3 M))
        ∗ owns (c : Thread nD τ) arg10 fullShare (upd i L (newL i x0 x1 x2 x3 M L))
        ∗ owns (c : Thread nD τ) arg11 fullShare (upd i T (newT i x0 x1 x2 x3 x4 T))) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11) K := by
  by_cases h1 : k0_cond1 i = 1#1
  · have h2 : ¬ k0_cond2 i = 1#1 := fun h => by rw [cond1_iff] at h1; rw [cond2_iff] at h; omega
    unfold out5 out6; rw [if_neg h2, if_neg h2]
    exact run_first c E i h1 h2 arg2 harg2 arg3 harg3 arg4 harg4 arg5 harg5 arg6 harg6 arg7 harg7 arg8 harg8 arg9 harg9 arg10 harg10 arg11 harg11 x0 x1 x2 x3 x4 y5 y6 M L T K
  · by_cases h2 : k0_cond2 i = 1#1
    · unfold out5 out6; rw [if_pos h2, if_pos h2]
      exact run_last c E i h1 h2 arg2 harg2 arg3 harg3 arg4 harg4 arg5 harg5 arg6 harg6 arg7 harg7 arg8 harg8 arg9 harg9 arg10 harg10 arg11 harg11 x0 x1 x2 x3 x4 y5 y6 M L T K
    · unfold out5 out6; rw [if_neg h2, if_neg h2]
      exact run_middle c E i h1 h2 arg2 harg2 arg3 harg3 arg4 harg4 arg5 harg5 arg6 harg6 arg7 harg7 arg8 harg8 arg9 harg9 arg10 harg10 arg11 harg11 x0 x1 x2 x3 x4 y5 y6 M L T K

end Cert.KernelIdeal.Hand

end
-- ==== Proof.KRun.lean ====
/- The run of the `head` kernel's pipeline, for any invariant of the scratch buffers that the body keeps. -/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow
public import proofs.«01_k».proof.Proof.KBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What an input window's buffer may hold at a point: the array's block, where the fetch fills it, and anything elsewhere. -/
def ftc (c : Dev nD) (w : Fin cfg0.W) (t : Fin cfg0.N) (d : (cfg0.win w).block.Idx → Elt F (cfg0.win w).elt) : (cfg0.win w).block.Idx → Elt F (cfg0.win w).elt :=
  (cfg0.win w).fill (cfg0.grid.coords t) d (((cfg0.win w).blk t).view.read (Elt F) (V m c (Pipeline.arrRef spec0 w)))

/-- What is claimed of the run, point by point: a predicate of the three scratch buffers before each point, and one of each result's block after each point. -/
structure Track (F : FTy → Type) where
  inv : Dev nD → Fin (cfg0.N + 1) → Vec F S8x16384 .f32 → Vec F S8x16384 .f32 → Vec F S8x16384 .f32 → Prop
  res5 : Dev nD → Fin cfg0.N → Vec F S1x512 .f32 → Prop
  res6 : Dev nD → Fin cfg0.N → Vec F S1x512 .f32 → Prop

/-- The predicates hold at the start and every point keeps them. -/
structure Track.Holds (I : Track F) : Prop where
  start : ∀ c M L T, I.inv c 0 M L T
  step : ∀ c (t : Fin cfg0.N) d0 d1 d2 d3 d4 M L T (y5 y6 : Vec F S1x512 .f32), I.inv c t.castSucc M L T →
    I.inv c t.succ
      (upd (grid0.coords t) M (newM (grid0.coords t) (ftc m c 0 t d0) (ftc m c 1 t d1) (ftc m c 2 t d2) (ftc m c 3 t d3) M))
      (upd (grid0.coords t) L (newL (grid0.coords t) (ftc m c 0 t d0) (ftc m c 1 t d1) (ftc m c 2 t d2) (ftc m c 3 t d3) M L))
      (upd (grid0.coords t) T (newT (grid0.coords t) (ftc m c 0 t d0) (ftc m c 1 t d1) (ftc m c 2 t d2) (ftc m c 3 t d3) (ftc m c 4 t d4) T))
    ∧ I.res5 c t (out5 (grid0.coords t) (ftc m c 0 t d0) (ftc m c 1 t d1) (ftc m c 2 t d2) (ftc m c 3 t d3) M L y5)
    ∧ I.res6 c t (out6 (grid0.coords t) (ftc m c 0 t d0) (ftc m c 1 t d1) (ftc m c 2 t d2) (ftc m c 3 t d3) (ftc m c 4 t d4) T y6)

variable (I : Track F)

/-- The invariant between points: the scratch buffers at contents the predicate allows, the generator register at some state. -/
def Phi (c : Dev nD) (t : Fin (cfg0.N + 1)) : sProp 𝕄 :=
  iprop(∃ M L T, ⌜I.inv c t M L T⌝ ∗ owns (c : Thread nD τ) (Memref.whole cc0_scratch0) fullShare M ∗ owns (c : Thread nD τ) (Memref.whole cc0_scratch1) fullShare L
    ∗ owns (c : Thread nD τ) (Memref.whole cc0_scratch2) fullShare T ∗ ∃ r, prngReg c r)

/-- The pipeline's proof data on core `c`: the inputs' buffers left as found, the results' as the predicates say. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => I.res5 c t X
    | ⟨6, _⟩ => I.res6 c t X
  Φ t := Phi I c t
  q _ := fullShare
  owed _ := 0

theorem A_eq (c : Dev nD) (w : Fin cfg0.W) : (rdat m I c).A w = V m c (Pipeline.arrRef spec0 w) := by dsimp only [rdat]

theorem Phi_eq (c : Dev nD) (t : Fin (cfg0.N + 1)) : (rdat m I c).Φ t = Phi I c t := by dsimp only [rdat]

theorem after0 (c : Dev nD) (t : Fin cfg0.N) (Y X) : (rdat m I c).after 0 t Y X = (X = Y) := by dsimp only [rdat]
theorem after1 (c : Dev nD) (t : Fin cfg0.N) (Y X) : (rdat m I c).after 1 t Y X = (X = Y) := by dsimp only [rdat]
theorem after2 (c : Dev nD) (t : Fin cfg0.N) (Y X) : (rdat m I c).after 2 t Y X = (X = Y) := by dsimp only [rdat]
theorem after3 (c : Dev nD) (t : Fin cfg0.N) (Y X) : (rdat m I c).after 3 t Y X = (X = Y) := by dsimp only [rdat]
theorem after4 (c : Dev nD) (t : Fin cfg0.N) (Y X) : (rdat m I c).after 4 t Y X = (X = Y) := by dsimp only [rdat]
theorem after5 (c : Dev nD) (t : Fin cfg0.N) (Y X) : (rdat m I c).after 5 t Y X = I.res5 c t X := by dsimp only [rdat]
theorem after6 (c : Dev nD) (t : Fin cfg0.N) (Y X) : (rdat m I c).after 6 t Y X = I.res6 c t X := by dsimp only [rdat]

theorem fetched_eq (c : Dev nD) (w : Fin cfg0.W) (t : Fin cfg0.N) (d) : (rdat m I c).fetched w t d = ftc m c w t d := by
  unfold RDat.fetched RDat.blockOf ftc; rw [A_eq]

/-- Input window 0's buffer at a point. -/
theorem finds0 (c : Dev nD) (t : Fin cfg0.N) (Y) (h : (rdat m I c).Finds 0 t Y) : ∃ d, Y = ftc m c 0 t d := by
  obtain ⟨d, hd⟩ := RDat.finds_in_eq_fetched (rdat m I c) 0 rfl (fun t t' h => funext fun a => congrArg (fun k : Fin 2 → ℕ => Pipeline.Clip.of (k a) (S2048x1280.size a) (S50260x1280.size a)) h)
    (fun t Y X hX => by rw [after0] at hX; exact hX) t Y h
  exact ⟨d, hd.trans (fetched_eq m I c 0 t d)⟩
/-- Input window 1's buffer at a point. -/
theorem finds1 (c : Dev nD) (t : Fin cfg0.N) (Y) (h : (rdat m I c).Finds 1 t Y) : ∃ d, Y = ftc m c 1 t d := by
  obtain ⟨d, hd⟩ := RDat.finds_in_eq_fetched (rdat m I c) 1 rfl (fun t t' h => funext fun a => congrArg (fun k : Fin 2 → ℕ => Pipeline.Clip.of (k a) (S2048x1.size a) (S50257x1.size a)) h)
    (fun t Y X hX => by rw [after1] at hX; exact hX) t Y h
  exact ⟨d, hd.trans (fetched_eq m I c 1 t d)⟩
/-- Input window 2's buffer at a point. -/
theorem finds2 (c : Dev nD) (t : Fin cfg0.N) (Y) (h : (rdat m I c).Finds 2 t Y) : ∃ d, Y = ftc m c 2 t d := by
  obtain ⟨d, hd⟩ := RDat.finds_in_eq_fetched (rdat m I c) 2 rfl (fun _ _ _ => rfl)
    (fun t Y X hX => by rw [after2] at hX; exact hX) t Y h
  exact ⟨d, hd.trans (fetched_eq m I c 2 t d)⟩
/-- Input window 3's buffer at a point. -/
theorem finds3 (c : Dev nD) (t : Fin cfg0.N) (Y) (h : (rdat m I c).Finds 3 t Y) : ∃ d, Y = ftc m c 3 t d := by
  obtain ⟨d, hd⟩ := RDat.finds_in_eq_fetched (rdat m I c) 3 rfl (fun _ _ _ => rfl)
    (fun t Y X hX => by rw [after3] at hX; exact hX) t Y h
  exact ⟨d, hd.trans (fetched_eq m I c 3 t d)⟩
/-- Input window 4's buffer at a point. -/
theorem finds4 (c : Dev nD) (t : Fin cfg0.N) (Y) (h : (rdat m I c).Finds 4 t Y) : ∃ d, Y = ftc m c 4 t d := by
  obtain ⟨d, hd⟩ := RDat.finds_in_eq_fetched (rdat m I c) 4 rfl (fun _ _ _ => rfl)
    (fun t Y X hX => by rw [after4] at hX; exact hX) t Y h
  exact ⟨d, hd.trans (fetched_eq m I c 4 t d)⟩

/-! ## The body obligation -/

/-- What the body is called with at a point, -/
def bodyPre (c : Dev nD) (t : Fin cfg0.N) (Y : (w : Fin cfg0.W) → (cfg0.win w).block.Idx → Elt F (cfg0.win w).elt) : sProp 𝕄 :=
  iprop((rdat m I c).Φ t.castSucc ∗ (rdat m I c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m I c).Φ t.succ ∗ (rdat m I c).owesAt () t.succ
    ∗ (∃ X, ⌜(rdat m I c).after 0 t (Y 0) X⌝ ∗ owns (c : Thread nD τ) (st0_0 t) fullShare X)
    ∗ (∃ X, ⌜(rdat m I c).after 1 t (Y 1) X⌝ ∗ owns (c : Thread nD τ) (st0_1 t) fullShare X)
    ∗ (∃ X, ⌜(rdat m I c).after 2 t (Y 2) X⌝ ∗ owns (c : Thread nD τ) (st0_2 t) fullShare X)
    ∗ (∃ X, ⌜(rdat m I c).after 3 t (Y 3) X⌝ ∗ owns (c : Thread nD τ) (st0_3 t) fullShare X)
    ∗ (∃ X, ⌜(rdat m I c).after 4 t (Y 4) X⌝ ∗ owns (c : Thread nD τ) (st0_4 t) fullShare X)
    ∗ (∃ X, ⌜(rdat m I c).after 5 t (Y 5) X⌝ ∗ owns (c : Thread nD τ) (st0_5 t) fullShare X)
    ∗ (∃ X, ⌜(rdat m I c).after 6 t (Y 6) X⌝ ∗ owns (c : Thread nD τ) (st0_6 t) fullShare X))

/-- The body at any point. -/
theorem sound_body (hI : I.Holds m) (c : Dev nD) (t : Fin cfg0.N) (Y : (w : Fin cfg0.W) → (cfg0.win w).block.Idx → Elt F (cfg0.win w).elt)
    (hY : ∀ w, (rdat m I c).Finds w t (Y w)) :
    bodyPre m I c t Y ⊢ wp frame (wpE (defs₀ (F := F)) Variants.none c none) Set.univ (bodyAt0 t) (fun _ => bodyPost m I c t Y) := by
  obtain ⟨d0, e0⟩ := finds0 m I c t (Y 0) (hY 0)
  obtain ⟨d1, e1⟩ := finds1 m I c t (Y 1) (hY 1)
  obtain ⟨d2, e2⟩ := finds2 m I c t (Y 2) (hY 2)
  obtain ⟨d3, e3⟩ := finds3 m I c t (Y 3) (hY 3)
  obtain ⟨d4, e4⟩ := finds4 m I c t (Y 4) (hY 4)
  unfold bodyPre bodyPost bodyAt0
  rw [show (rdat m I c).owesAt () t.succ = (rdat m I c).owesAt () t.castSucc from rfl, Phi_eq, Phi_eq]
  unfold Phi
  simp only [after0, after1, after2, after3, after4, after5, after6]
  rw [e0, e1, e2, e3, e4]
  iintro ⟨⟨%M, %L, %T, %hinv, HM, HL, HT, Hr⟩, Ho, H0, H1, H2, H3, H4, H5, H6⟩
  have hs := hI.step c t d0 d1 d2 d3 d4 M L T (Y 5) (Y 6) hinv
  iapply (sound_kernel c Set.univ (grid0.coords t) _ _ _ _ _ _ _ _ _ _ _ _ _ _ _ _ _ _ _ _ (ftc m c 0 t d0) (ftc m c 1 t d1) (ftc m c 2 t d2) (ftc m c 3 t d3) (ftc m c 4 t d4) (Y 5) (Y 6) M L T _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HM]; · iexact HM
  isplitl [HL]; · iexact HL
  isplitl [HT]; · iexact HT
  iintro ⟨H0, H1, H2, H3, H4, H5, H6, HM, HL, HT⟩
  isplitl [HM HL HT Hr]
  · iexists _, _, _; isplitr; · ipureintro; exact hs.1
    isplitl [HM]; · iexact HM
    isplitl [HL]; · iexact HL
    isplitl [HT]; · iexact HT
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact hs.2.1
  iexists _; isplitr; swap; · iexact H6
  ipureintro; exact hs.2.2

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (hI : I.Holds m) (c : Dev nD) : (rdat m I c).BodyObligation (defs₀ (F := F)) Variants.none () Set.univ := fun t Y hY => by
  rw [bigSep_W0, bigSep_W0, defs₀_row]
  exact triple_restated (sound_body m I hI c t Y hY) rfl .rfl fun _ => .rfl

/-! ## The launch -/

/-- The scratch buffers at any contents give the invariant before the first point. -/
theorem phi_in (hI : I.Holds m) (c : Dev nD) : Pipeline.ΦA (Val := Elt F) (U := UR sig nD τ) spec0 c ⊢ (rdat m I c).Φ 0 := by
  rw [Phi_eq]; unfold Pipeline.ΦA Phi
  rw [scopedRest0_eq]
  simp only [owns_whole]
  iintro ⟨⟨⟨%M, HM⟩, ⟨%L, HL⟩, ⟨%T, HT⟩⟩, Hr⟩
  iexists M, L, T
  isplitr; · ipureintro; exact hI.start c M L T
  isplitl [HM]; · iexact HM
  isplitl [HL]; · iexact HL
  isplitl [HT]; · iexact HT
  iexact Hr

/-- The invariant after the last point gives the scratch buffers back. -/
theorem phi_out (c : Dev nD) : (rdat m I c).Φ (Fin.last cfg0.N) ⊢ Pipeline.ΦA (Val := Elt F) (U := UR sig nD τ) spec0 c := by
  rw [Phi_eq]; unfold Pipeline.ΦA Phi
  rw [scopedRest0_eq]
  simp only [owns_whole]
  iintro ⟨%M, %L, %T, -, HM, HL, HT, Hr⟩
  isplitl [HM HL HT]
  · isplitl [HM]; · iexists M; iexact HM
    isplitl [HL]; · iexists L; iexact HL
    iexists T; iexact HT
  iexact Hr

set_option backward.isDefEq.respectTransparency.types false in
set_option maxHeartbeats 800000 in
/-- Every fair execution terminates, with the pipeline's arrays as the proof data allows, every other buffer as the region found it and every counter at zero. -/
theorem run_main (hI : I.Holds m) : θ_run defs (onTc (τ := τ) (main (F := F))) (s₀ m ρ)
    (fun r => Pipeline.RDat.FramePost (cfgs 0) (fun c => rdat m I c) (V m) r ∧ r.2.sem = fun _ => 0) :=
  Pipeline.RDat.θ_run_frame_track (Q' := _) cfgs (0 : Fin 1) launch0 defs₀ Variants.none (fun c => rdat m I c) m ρ main
    (hbody := fun c => body_obligation m I hI c) (hshare := fun c w => by unfold RDat.share; split <;> rfl)
    (howed := fun _ _ => rfl) (V := V m) (hmain := hmain m Variants.none) (hA := A_eq m I)
    (hin := phi_in m I hI) (hout := phi_out m I)

variable {m}

/-- The argument arrays end as launched. -/
theorem unchanged_of (r : PUnit × MemSt nD τ sig (Elt F)) (h : Pipeline.RDat.FramePost (cfgs 0) (fun c => rdat m I c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

variable (m)

/-- Nothing claimed. -/
def trivialTrack : Track F := ⟨fun _ _ _ _ _ => True, fun _ _ _ => True, fun _ _ _ => True⟩

theorem trivial_holds : (trivialTrack (F := F)).Holds m := ⟨fun _ _ _ _ => trivial, fun _ _ _ _ _ _ _ _ _ _ _ _ _ => ⟨trivial, trivial, trivial⟩⟩

/-- The frame: the run terminates, the argument arrays end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => unchanged_of trivialTrack r h.1 c, h.2⟩) (run_main m ρ trivialTrack (trivial_holds m))

end Cert.KernelIdeal.Hand

end
-- ==== Proof.Math.lean ====
/-
The mathematics of a log-sum-exp taken online in base 2, over the extended reals.

`exp2` of a difference `x - M` is 0 as soon as `M` is +∞ (whatever `x ≤ M` is) or `x` is -∞, so the
partial sums `Σ exp2 (x - M)` rescale by `exp2 (M - M')` when the bound goes from `M` to `M' ≥ M`, at
every extended real: both sides are 0 when a bound is infinite, and the law of exponents otherwise.
-/
module
public import Idealize.ShloMosaic.PureOps.Ideal.Laws
public import Idealize.ShloMosaic.Lib.Pipeline.Value

@[expose] public section

noncomputable section

open scoped BigOperators
open Idealize.ShloMosaic

namespace Cert.Math

/-- The base-2 exponential is nonnegative. -/
theorem exp2_nonneg (x : EReal) : 0 ≤ Ideal.exp2 x := by
  induction x with
  | bot => exact le_rfl
  | top => exact le_top
  | coe r =>
    rw [Ideal.exp2_coe]
    exact EReal.coe_nonneg.mpr (Real.rpow_nonneg (by norm_num) r)

/-- A difference from +∞ is -∞, at +∞ too. -/
theorem sub_top (x : EReal) : x - ⊤ = ⊥ := by
  induction x <;> rfl

/-- -∞ less anything is -∞. -/
theorem bot_sub (x : EReal) : (⊥ : EReal) - x = ⊥ := by
  induction x <;> rfl

/-- One term rescales from the bound `M` to the larger bound `M'`. -/
theorem exp2_rescale {x M M' : EReal} (h : x ≤ M) (h' : M ≤ M') :
    Ideal.exp2 (x - M) * Ideal.exp2 (M - M') = Ideal.exp2 (x - M') := by
  induction M' with
  | bot =>
    obtain rfl := le_bot_iff.mp h'
    obtain rfl := le_bot_iff.mp h
    simp only [bot_sub, Ideal.exp2_bot, mul_zero]
  | top => simp only [sub_top, Ideal.exp2_bot, mul_zero]
  | coe m' =>
    induction M with
    | top => exact absurd (top_le_iff.mp h') (EReal.coe_ne_top m')
    | bot =>
      obtain rfl := le_bot_iff.mp h
      simp only [bot_sub, Ideal.exp2_bot, mul_zero]
    | coe m =>
      induction x with
      | top => exact absurd (top_le_iff.mp h) (EReal.coe_ne_top m)
      | bot => simp only [bot_sub, Ideal.exp2_bot, zero_mul]
      | coe r =>
        simp only [← EReal.coe_sub, Ideal.exp2_coe, ← EReal.coe_mul]
        congr 1
        change (2 : ℝ) ^ (r - m) * (2 : ℝ) ^ (m - m') = (2 : ℝ) ^ (r - m')
        rw [← Real.rpow_add (by norm_num)]
        congr 1
        ring

/-- A sum of nonnegative extended reals times anything is the sum of the products. -/
theorem sum_mul_of_nonneg {ι : Type*} (A : Finset ι) (f : ι → EReal) (c : EReal) (hf : ∀ i ∈ A, 0 ≤ f i) :
    (∑ i ∈ A, f i) * c = ∑ i ∈ A, f i * c := by
  classical
  induction A using Finset.induction_on with
  | empty => simp only [Finset.sum_empty, zero_mul]
  | insert a A ha ih =>
    have h0 : ∀ i ∈ A, 0 ≤ f i := fun i hi => hf i (Finset.mem_insert_of_mem hi)
    rw [Finset.sum_insert ha, Finset.sum_insert ha,
      EReal.right_distrib_of_nonneg (hf a (Finset.mem_insert_self a A)) (Finset.sum_nonneg h0), ih h0]

/-- The partial sum below a bound rescales to a larger bound. -/
theorem sum_rescale {ι : Type*} (A : Finset ι) (f : ι → EReal) {M M' : EReal} (h : ∀ i ∈ A, f i ≤ M) (h' : M ≤ M') :
    (∑ i ∈ A, Ideal.exp2 (f i - M)) * Ideal.exp2 (M - M') = ∑ i ∈ A, Ideal.exp2 (f i - M') := by
  rw [sum_mul_of_nonneg A _ _ (fun i _ => exp2_nonneg _)]
  exact Finset.sum_congr rfl fun i hi => exp2_rescale (h i hi) h'

/-- The guard of a bound against -∞ (0 in its place) changes no exponential of a difference from it. -/
theorem exp2_sub_safe {x M : EReal} (h : x ≤ M) :
    Ideal.exp2 (x - if M = ⊥ then 0 else M) = Ideal.exp2 (x - M) := by
  by_cases hM : M = ⊥
  · subst hM
    obtain rfl := le_bot_iff.mp h
    simp only [bot_sub]
  · rw [if_neg hM]

/-- Multiplication by a nonnegative real distributes over a sum of extended reals. -/
theorem sum_mul_coe {ι : Type*} (A : Finset ι) (f : ι → EReal) {c : ℝ} (hc : 0 ≤ c) :
    (∑ i ∈ A, f i) * (c : EReal) = ∑ i ∈ A, f i * (c : EReal) := by
  classical
  induction A using Finset.induction_on with
  | empty => simp only [Finset.sum_empty, zero_mul]
  | insert a A ha ih =>
    rw [Finset.sum_insert ha, Finset.sum_insert ha, mul_comm,
      EReal.left_distrib_of_nonneg_of_ne_top (EReal.coe_nonneg.mpr hc) (EReal.coe_ne_top c), mul_comm _ (f a),
      mul_comm _ (∑ i ∈ A, f i), ih]

/-- Multiplication by a nonnegative real preserves the order. -/
theorem mul_coe_le_mul_coe {x y : EReal} {c : ℝ} (hc : 0 ≤ c) (h : x ≤ y) : x * (c : EReal) ≤ y * (c : EReal) :=
  mul_le_mul_of_nonneg_right h (EReal.coe_nonneg.mpr hc)

/-- Multiplying by a real and by its inverse changes nothing. -/
theorem mul_coe_mul_coe_cancel (x : EReal) {c d : ℝ} (h : c * d = 1) : x * (c : EReal) * (d : EReal) = x := by
  rw [mul_assoc, ← EReal.coe_mul, h, EReal.coe_one, mul_one]

/-- The supremum of a scaled family over a scale factor is the scaled supremum. -/
theorem sup_mul_coe {ι : Type*} (A : Finset ι) (f : ι → EReal) {c d : ℝ} (hc : 0 ≤ c) (hd : 0 ≤ d) (h : c * d = 1) :
    (A.sup fun i => f i * (c : EReal)) * (d : EReal) = A.sup f := by
  refine le_antisymm ?_ (Finset.sup_le fun i hi => ?_)
  · have : (A.sup fun i => f i * (c : EReal)) ≤ A.sup f * (c : EReal) :=
      Finset.sup_le fun i hi => mul_coe_le_mul_coe hc (Finset.le_sup hi)
    calc _ ≤ A.sup f * (c : EReal) * (d : EReal) := mul_coe_le_mul_coe hd this
      _ = _ := mul_coe_mul_coe_cancel _ h
  · calc f i = f i * (c : EReal) * (d : EReal) := (mul_coe_mul_coe_cancel _ h).symm
      _ ≤ _ := mul_coe_le_mul_coe hd (Finset.le_sup (f := fun i => f i * (c : EReal)) hi)

/-- A difference scaled by a positive real is the difference of the scaled. -/
theorem sub_mul_coe (x y : EReal) {c : ℝ} (hc : 0 < c) :
    (x - y) * (c : EReal) = x * (c : EReal) - y * (c : EReal) := by
  rw [sub_eq_add_neg, sub_eq_add_neg, mul_comm,
    EReal.left_distrib_of_nonneg_of_ne_top (EReal.coe_nonneg.mpr hc.le) (EReal.coe_ne_top c), mul_comm _ x,
    mul_comm _ (-y), EReal.neg_mul]

/-- The base-2 exponential of `x / log 2` is the exponential of `x`. -/
theorem exp2_log2e (x : EReal) : Ideal.exp2 (x * (((Real.log 2)⁻¹ : ℝ) : EReal)) = Ideal.exp x := by
  have hl : 0 < Real.log 2 := Real.log_pos (by norm_num)
  induction x with
  | bot => rw [EReal.bot_mul_coe_of_pos (inv_pos.mpr hl)]; rfl
  | top => rw [EReal.top_mul_coe_of_pos (inv_pos.mpr hl)]; rfl
  | coe r =>
    rw [← EReal.coe_mul, Ideal.exp2_coe, Ideal.exp_coe]
    congr 1
    change (2 : ℝ) ^ (r * (Real.log 2)⁻¹) = Real.exp r
    rw [Real.rpow_def_of_pos (by norm_num)]
    congr 1
    field_simp

/-- A sum over `8 n` consecutive places, by the residue of the place modulo 8. -/
theorem sum_range_eight {M : Type*} [AddCommMonoid M] (g : ℕ → M) (n : ℕ) :
    ∑ v ∈ Finset.range (8 * n), g v = ∑ s : Fin 8, ∑ b ∈ Finset.range n, g (8 * b + s.val) := by
  induction n with
  | zero => simp only [Nat.mul_zero, Finset.range_zero, Finset.sum_empty, Finset.sum_const_zero]
  | succ n ih =>
    rw [Nat.mul_succ, Finset.sum_range_add, ih, ← Fin.sum_univ_eq_sum_range (fun x => g (8 * n + x)) 8,
      ← Finset.sum_add_distrib]
    exact Finset.sum_congr rfl fun s _ => (Finset.sum_range_succ _ n).symm

/-! ## The online pass, one vocabulary tile of 256 rows of 8 sublanes at a time

`Z v` is the logit of vocabulary entry `v` of one row in the base-2 domain; sublane `s` accumulates the entries `v` with
`v % 8 = s`, and after `n` tiles those below `2048 n`. -/

/-- The running maximum of sublane `s` after `n` tiles. -/
def runMax (Z : ℕ → EReal) (n s : ℕ) : EReal := (Finset.range (256 * n)).sup fun b => Z (8 * b + s)

/-- The running sum of exponentials of sublane `s` after `n` tiles. -/
def runSum (Z : ℕ → EReal) (n s : ℕ) : EReal :=
  ∑ b ∈ Finset.range (256 * n), Ideal.exp2 (Z (8 * b + s) - runMax Z n s)

/-- The running sum of sublane `s`'s entries of a summand after `n` tiles. -/
def runAdd (G : ℕ → EReal) (n s : ℕ) : EReal := ∑ b ∈ Finset.range (256 * n), G (8 * b + s)

/-- Before the first tile the maximum is -∞. -/
theorem runMax_zero (Z : ℕ → EReal) (s : ℕ) : runMax Z 0 s = ⊥ := Finset.sup_empty

/-- Before the first tile the sum of exponentials is 0. -/
theorem runSum_zero (Z : ℕ → EReal) (s : ℕ) : runSum Z 0 s = 0 := Finset.sum_empty

/-- Before the first tile the sum is 0. -/
theorem runAdd_zero (G : ℕ → EReal) (s : ℕ) : runAdd G 0 s = 0 := Finset.sum_empty

/-- Where entry `b` of tile `n`, sublane `s`, lies in the vocabulary. -/
theorem place (n b s : ℕ) : 2048 * n + (8 * b + s) = 8 * (256 * n + b) + s := by ring

/-- One more tile: the maximum. -/
theorem runMax_succ (Z : ℕ → EReal) (n s : ℕ) :
    max (runMax Z n s) (Finset.univ.sup fun b : Fin 256 => Z (2048 * n + (8 * b.val + s))) = runMax Z (n + 1) s := by
  refine le_antisymm (max_le (Finset.sup_mono fun b hb => ?_) (Finset.sup_le fun b _ => ?_)) (Finset.sup_le fun b hb => ?_)
  · exact Finset.mem_range.mpr (by have := Finset.mem_range.mp hb; omega)
  · rw [place]
    exact Finset.le_sup (f := fun b => Z (8 * b + s)) (Finset.mem_range.mpr (by have := b.isLt; omega))
  · have hb := Finset.mem_range.mp hb
    by_cases h : b < 256 * n
    · exact le_max_of_le_left (Finset.le_sup (f := fun b => Z (8 * b + s)) (Finset.mem_range.mpr h))
    · refine le_max_of_le_right ?_
      have e : Z (8 * b + s) = Z (2048 * n + (8 * (⟨b - 256 * n, by omega⟩ : Fin 256).val + s)) :=
        congrArg Z (by rw [place]; change _ = 8 * (256 * n + (b - 256 * n)) + s; omega)
      rw [e]
      exact Finset.le_sup (f := fun b : Fin 256 => Z (2048 * n + (8 * b.val + s))) (Finset.mem_univ _)

/-- One more tile: a plain sum. -/
theorem runAdd_succ (G : ℕ → EReal) (n s : ℕ) :
    runAdd G n s + ∑ b : Fin 256, G (2048 * n + (8 * b.val + s)) = runAdd G (n + 1) s := by
  unfold runAdd
  rw [Nat.mul_succ, Finset.sum_range_add, ← Fin.sum_univ_eq_sum_range (fun x => G (8 * (256 * n + x) + s)) 256]
  simp only [place]

/-- One more tile: the sum of exponentials, rescaled to the new maximum (guarded against -∞). -/
theorem runSum_succ (Z : ℕ → EReal) (n s : ℕ) (M : EReal) (hM : M = runMax Z (n + 1) s) :
    runSum Z n s * Ideal.exp2 (runMax Z n s - if M = ⊥ then 0 else M)
        + ∑ b : Fin 256, Ideal.exp2 (Z (2048 * n + (8 * b.val + s)) - if M = ⊥ then 0 else M)
      = runSum Z (n + 1) s := by
  have hle : runMax Z n s ≤ M := by rw [hM, ← runMax_succ]; exact le_max_left _ _
  have hb : ∀ b : Fin 256, Z (2048 * n + (8 * b.val + s)) ≤ M := fun b => by
    rw [hM, ← runMax_succ]
    exact le_max_of_le_right (Finset.le_sup (f := fun b : Fin 256 => Z (2048 * n + (8 * b.val + s))) (Finset.mem_univ b))
  rw [exp2_sub_safe hle, Finset.sum_congr rfl fun b _ => exp2_sub_safe (hb b)]
  unfold runSum
  rw [sum_rescale _ _ (fun b hb => Finset.le_sup (f := fun b => Z (8 * b + s)) hb) hle, ← hM]
  exact runAdd_succ (fun v => Ideal.exp2 (Z v - M)) n s

/-- The largest of a family over the entries below `8 n`, by the sublanes. -/
theorem sup_range_eight (g : ℕ → EReal) (n : ℕ) :
    (Finset.univ.sup fun s : Fin 8 => (Finset.range n).sup fun b => g (8 * b + s.val)) = (Finset.range (8 * n)).sup g := by
  refine le_antisymm (Finset.sup_le fun s _ => Finset.sup_le fun b hb => Finset.le_sup ?_) (Finset.sup_le fun v hv => ?_)
  · exact Finset.mem_range.mpr (by have := Finset.mem_range.mp hb; have := s.isLt; omega)
  · have hv := Finset.mem_range.mp hv
    have e : g v = g (8 * (v / 8) + (⟨v % 8, Nat.mod_lt _ (by norm_num)⟩ : Fin 8).val) := congrArg g (Nat.div_add_mod v 8).symm
    rw [e]
    refine le_trans ?_ (Finset.le_sup (f := fun s : Fin 8 => (Finset.range n).sup fun b => g (8 * b + s.val))
      (Finset.mem_univ (⟨v % 8, Nat.mod_lt _ (by norm_num)⟩ : Fin 8)))
    exact Finset.le_sup (f := fun b => g (8 * b + v % 8)) (Finset.mem_range.mpr (by omega))

/-- After the last tile the eight sublanes combine to the log-sum-exp of the whole row. -/
theorem combine (Z : ℕ → EReal) (n : ℕ) (M : EReal) (hM : M = Finset.univ.sup fun s : Fin 8 => runMax Z n s.val) :
    ∑ s : Fin 8, runSum Z n s.val * Ideal.exp2 (runMax Z n s.val - M)
      = ∑ v ∈ Finset.range (8 * (256 * n)), Ideal.exp2 (Z v - M) := by
  rw [sum_range_eight (fun v => Ideal.exp2 (Z v - M))]
  refine Finset.sum_congr rfl fun s _ => ?_
  unfold runSum
  refine sum_rescale _ _ (fun b hb => Finset.le_sup (f := fun b => Z (8 * b + s.val)) hb) ?_
  rw [hM]
  exact Finset.le_sup (f := fun s : Fin 8 => runMax Z n s.val) (Finset.mem_univ s)

/-- The pass over a row of `n` entries ends with the log-sum-exp of the natural logits `z`, of which the entries from `N` on are
masked by -∞. -/
theorem logsumexp (Z : ℕ → EReal) (N n : ℕ) (hN : N ≤ 8 * (256 * n)) (z : Fin N → EReal)
    (hZ : ∀ v : Fin N, Z v.val = z v * (((Real.log 2)⁻¹ : ℝ) : EReal)) (hmask : ∀ v, N ≤ v → Z v = ⊥) :
    (Finset.univ.sup fun s : Fin 8 => runMax Z n s.val) * ((Real.log 2 : ℝ) : EReal)
        + Ideal.log (∑ s : Fin 8, runSum Z n s.val
            * Ideal.exp2 (runMax Z n s.val - Finset.univ.sup fun s : Fin 8 => runMax Z n s.val))
      = Finset.univ.sup z + Ideal.log (∑ v : Fin N, Ideal.exp (z v - Finset.univ.sup z)) := by
  have hl : 0 < Real.log 2 := Real.log_pos (by norm_num)
  have hcd : (Real.log 2)⁻¹ * Real.log 2 = 1 := inv_mul_cancel₀ hl.ne'
  have hdc : Real.log 2 * (Real.log 2)⁻¹ = 1 := mul_inv_cancel₀ hl.ne'
  have hsup : (Finset.univ.sup fun s : Fin 8 => runMax Z n s.val) = Finset.univ.sup fun v : Fin N => z v * (((Real.log 2)⁻¹ : ℝ) : EReal) := by
    refine (sup_range_eight Z (256 * n)).trans (le_antisymm (Finset.sup_le fun v hv => ?_) (Finset.sup_le fun v _ => ?_))
    · by_cases h : v < N
      · refine le_trans (le_of_eq (hZ ⟨v, h⟩)) ?_
        exact Finset.le_sup (f := fun v : Fin N => z v * (((Real.log 2)⁻¹ : ℝ) : EReal)) (Finset.mem_univ _)
      · rw [hmask v (by omega)]; exact bot_le
    · rw [← hZ v]
      exact Finset.le_sup (f := Z) (Finset.mem_range.mpr (by have := v.isLt; omega))
  have hmul : (Finset.univ.sup fun s : Fin 8 => runMax Z n s.val) * ((Real.log 2 : ℝ) : EReal) = Finset.univ.sup z := by
    rw [hsup]; exact sup_mul_coe _ _ (inv_pos.mpr hl).le hl.le hcd
  have hM : (Finset.univ.sup fun s : Fin 8 => runMax Z n s.val) = Finset.univ.sup z * (((Real.log 2)⁻¹ : ℝ) : EReal) := by
    rw [← hmul, mul_coe_mul_coe_cancel _ hdc]
  rw [hmul, combine Z n _ rfl]
  congr 2
  generalize (Finset.univ.sup fun s : Fin 8 => runMax Z n s.val) = M at hM
  obtain ⟨k, hk⟩ := Nat.exists_eq_add_of_le hN
  rw [hk, Finset.sum_range_add, Finset.sum_eq_zero (s := Finset.range k), add_zero,
    ← Fin.sum_univ_eq_sum_range (fun v => Ideal.exp2 (Z v - M)) N]
  · refine Finset.sum_congr rfl fun v _ => ?_
    rw [hZ, hM, ← sub_mul_coe _ _ (inv_pos.mpr hl), exp2_log2e]
  · intro v _
    rw [hmask _ (Nat.le_add_right N v), bot_sub, Ideal.exp2_bot]

/-- The sum of a summand over a row of `n` entries, of which the entries from `N` on are 0, scaled back to natural logarithms. -/
theorem addAll (G : ℕ → EReal) (N n : ℕ) (hN : N ≤ 8 * (256 * n)) (g : Fin N → EReal)
    (hG : ∀ v : Fin N, G v.val = g v * (((Real.log 2)⁻¹ : ℝ) : EReal)) (hmask : ∀ v, N ≤ v → v < 8 * (256 * n) → G v = 0) :
    (∑ s : Fin 8, runAdd G n s.val) * ((Real.log 2 : ℝ) : EReal) = ∑ v : Fin N, g v := by
  have hl : 0 < Real.log 2 := Real.log_pos (by norm_num)
  have hcd : (Real.log 2)⁻¹ * Real.log 2 = 1 := inv_mul_cancel₀ hl.ne'
  unfold runAdd
  rw [← sum_range_eight G]
  obtain ⟨k, hk⟩ := Nat.exists_eq_add_of_le hN
  rw [hk, Finset.sum_range_add, Finset.sum_eq_zero (s := Finset.range k), add_zero, ← Fin.sum_univ_eq_sum_range G N,
    sum_mul_coe _ _ hl.le]
  · refine Finset.sum_congr rfl fun v _ => ?_
    rw [hG, mul_coe_mul_coe_cancel _ hcd]
  · intro v hv
    exact hmask _ (Nat.le_add_right N v) (by have := Finset.mem_range.mp hv; omega)

end Cert.Math

end

end
-- ==== Proof.KPay.lean ====
/- What the pure values of the `head` kernel are at an index, over the extended reals. -/
module

public import proofs.«01_k».proof.Proof.KBody
public import proofs.«01_k».proof.Proof.Math
public import Idealize.ShloMosaic.Lib.Pointwise
public import Idealize.ShloMosaic.Lib.MatmulPlain
public import Idealize.ShloMosaic.Lib.ValueLayoutCasts
public import Idealize.ShloMosaic.PureOps.IdealRules

@[expose] public section

noncomputable section

open scoped BigOperators
open Idealize.ShloMosaic

namespace Cert.KernelIdeal.Hand

open Cert.KernelIdeal Cert.KernelIdeal.Gen

/-- The constant `1 / log 2`. -/
abbrev log2e : EReal := (((Real.log 2)⁻¹ : ℝ) : EReal)
/-- The constant `log 2`. -/
abbrev ln2 : EReal := ((Real.log 2 : ℝ) : EReal)

/-- The word of -∞ is -∞. -/
theorem ofBits_negInf : Ideal.ofBits FTy.f32 4286578688#32 = ⊥ := by simp [Ideal.ofBits, Ideal.ieee]

/-- The named constant `log2e` is `1 / log 2`. -/
theorem named_log2e : (Named.named (F := Ideal) κ "log2e" 1069066811#32 : Ideal FTy.f32) = log2e :=
  IdealRules.named_const.ideal_named_scalar _ _ _ _ rfl

/-- The named constant `ln2` is `log 2`. -/
theorem named_ln2 : (Named.named (F := Ideal) κ "ln2" 1060205080#32 : Ideal FTy.f32) = ln2 :=
  IdealRules.named_const.ideal_named_scalar _ _ _ _ rfl

/-- A maximum folded from -∞ is the supremum. -/
theorem fold_max_eq_sup {ι : Type*} (A : Finset ι) (f : ι → EReal) : A.fold max ⊥ f = A.sup f := rfl

/-- The running target sum of the tile. -/
theorem pay1_at (v33 : FVec Ideal S2048x512 .f32) (v36 : Vec Ideal S8x512 .f32) (s : Fin 8) (l : Fin 512) :
    k0_pay1 v33 v36 (ix2 s l)
      = v36 (ix2 s l) + ∑ b : Fin 256, v33 (ix2 (⟨8 * b.val + s.val, by omega⟩ : Fin 2048) l) := by
  unfold k0_pay1
  simp only [pointwise, Ideal.reduceAdd_def, mul_comm 8]

/-- The running maximum of the tile. -/
theorem pay2_at (v34 : FVec Ideal S256x8x512 .f32) (v45 : Vec Ideal S8x512 .f32) (s : Fin 8) (l : Fin 512) :
    k0_pay2 v34 v45 (ix2 s l) = max (v45 (ix2 s l)) (Finset.univ.sup fun b : Fin 256 => v34 (ix3 b s l)) := by
  unfold k0_pay2
  simp only [pointwise, ofBits_negInf]
  rfl

/-- The running maximum of the tile, as stored. -/
theorem pay4_at (v34 : FVec Ideal S256x8x512 .f32) (v45 : Vec Ideal S8x512 .f32) (s : Fin 8) (l : Fin 512) :
    k0_pay4 v34 v45 (ix2 s l) = max (v45 (ix2 s l)) (Finset.univ.sup fun b : Fin 256 => v34 (ix3 b s l)) := by
  rw [← pay2_at]
  unfold k0_pay4
  simp only [pointwise]

/-- The running sum of exponentials of the tile. -/
theorem pay3_at (v34 : FVec Ideal S256x8x512 .f32) (v45 v57 : Vec Ideal S8x512 .f32) (s : Fin 8) (l : Fin 512) :
    k0_pay3 v34 v45 v57 (ix2 s l)
      = v57 (ix2 s l) * Ideal.exp2 (v45 (ix2 s l) - if k0_pay2 v34 v45 (ix2 s l) = ⊥ then 0 else k0_pay2 v34 v45 (ix2 s l))
        + ∑ b : Fin 256, Ideal.exp2 (v34 (ix3 b s l) - if k0_pay2 v34 v45 (ix2 s l) = ⊥ then 0 else k0_pay2 v34 v45 (ix2 s l)) := by
  unfold k0_pay3
  simp only [pointwise, Ideal.reduceAdd_def, ofBits_negInf]
  rfl

/-- The log-sum-exp written at the last tile. -/
theorem pay5_at (v75 v79 : Vec Ideal S8x512 .f32) (l : Fin 512) :
    k0_pay5 v75 v79 (ix2 0 l)
      = (Finset.univ.sup fun s : Fin 8 => v75 (ix2 s l)) * ln2
        + Ideal.log (∑ s : Fin 8, v79 (ix2 s l) * Ideal.exp2 (v75 (ix2 s l) - Finset.univ.sup fun s : Fin 8 => v75 (ix2 s l))) := by
  unfold k0_pay5
  simp only [pointwise, Ideal.reduceAdd_def, ofBits_negInf, named_ln2]
  rfl

/-- The target logit written at the last tile. -/
theorem pay6_at (v92 : Vec Ideal S8x512 .f32) (l : Fin 512) :
    k0_pay6 v92 (ix2 0 l) = (∑ s : Fin 8, v92 (ix2 s l)) * ln2 := by
  unfold k0_pay6
  simp only [pointwise, Ideal.reduceAdd_def, named_ln2]

/-- The maximum starts at -∞. -/
theorem pay7_at (s : Fin 8) (l : Fin 512) : k0_pay7 (F := Ideal) (ix2 s l) = ⊥ := by
  unfold k0_pay7
  simp only [pointwise, ofBits_negInf]

/-- The sum of exponentials starts at 0. -/
theorem pay8_at (s : Fin 8) (l : Fin 512) : k0_pay8 (F := Ideal) (ix2 s l) = 0 := by
  unfold k0_pay8
  simp only [pointwise]

/-- The target logit starts at 0. -/
theorem pay9_at (s : Fin 8) (l : Fin 512) : k0_pay9 (F := Ideal) (ix2 s l) = 0 := by
  unfold k0_pay9
  simp only [pointwise]

/-- A tile's row is the vocabulary entry `2048 i₀ + p`. -/
theorem pay10_at (i : grid0.Coords) (p : Fin 2048) (l : Fin 512) :
    k0_pay10 i (ix2 p l) = BitVec.ofNat 32 (2048 * (i 0).val + p.val) := by
  unfold k0_pay10
  simp only [pointwise]
  have e : List.foldl (fun n a => n * ![2048, 512] a + ((ix2 p l : S2048x512.Idx) a).val) 0 [(0 : Fin 2)] = p.val := by
    show 0 * 2048 + p.val = p.val
    omega
  rw [show (List.foldl _ 0 [(0 : Fin 2)] : ℕ) = p.val from e]
  show BitVec.ofNat 32 (i 0).val * 2048#32 + BitVec.ofNat 32 p.val = _
  apply BitVec.eq_of_toNat_eq
  simp only [BitVec.toNat_add, BitVec.toNat_mul, BitVec.toNat_ofNat]
  omega

/-- A word below 51200 compared with the size of the vocabulary. -/
theorem slt_vocab (v : ℕ) (hv : v < 51200) : (BitVec.ofNat 32 v).slt 50257#32 = decide (v < 50257) := by
  unfold BitVec.slt
  have h1 : (BitVec.ofNat 32 v).toInt = v := by
    have ht : (BitVec.ofNat 32 v).toNat = v := by rw [BitVec.toNat_ofNat]; omega
    rw [BitVec.toInt_eq_toNat_of_lt (by rw [ht]; omega), ht]
  have h2 : (50257#32).toInt = 50257 := by decide
  rw [h1, h2]
  exact decide_eq_decide.mpr (by omega)

/-- The tile's logits in the base-2 domain, masked beyond the vocabulary. -/
theorem pay11_at (i : grid0.Coords) (v5 : Vec Ideal S2048x1280 .fp8e4m3) (v7 : Vec Ideal S512x1280 .fp8e4m3)
    (v10 : Vec Ideal S2048x1 .f32) (v16 : Vec Ideal S1x512 .f32) (p : Fin 2048) (l : Fin 512) :
    k0_pay11 i v5 v7 v10 v16 (ix2 p l)
      = if 2048 * (i 0).val + p.val < 50257 then
          (∑ k : Fin 1280, v5 (ix2 p k) * v7 (ix2 l k)) * (v10 (ix2 p 0) * log2e) * v16 (ix2 0 l)
        else ⊥ := by
  have hi : (i 0).val < 25 := (i 0).isLt
  have hp := p.isLt
  unfold k0_pay11
  simp only [pointwise, pay10_at, ofBits_negInf, named_log2e, zero_add]
  show (if BitVec.ofBool ((BitVec.ofNat 32 (2048 * (i 0).val + p.val)).slt 50257#32) = 1#1 then _ else _) = _
  rw [slt_vocab _ (by omega)]
  by_cases h : 2048 * (i 0).val + p.val < 50257
  · rw [if_pos h]
    exact if_pos (by rw [decide_eq_true h]; rfl)
  · rw [if_neg h]
    exact if_neg (by rw [decide_eq_false h]; decide)

/-- The tile's summands of the target logit. -/
theorem pay12_at (i : grid0.Coords) (v5 : Vec Ideal S2048x1280 .fp8e4m3) (v7 : Vec Ideal S512x1280 .fp8e4m3)
    (v10 : Vec Ideal S2048x1 .f32) (v16 : Vec Ideal S1x512 .f32) (v28 : Vec Ideal S1x512 .i32) (p : Fin 2048) (l : Fin 512) :
    k0_pay12 i v5 v7 v10 v16 v28 (ix2 p l)
      = if BitVec.ofNat 32 (2048 * (i 0).val + p.val) = v28 (ix2 0 l) then k0_pay11 i v5 v7 v10 v16 (ix2 p l) else 0 := by
  unfold k0_pay12
  simp only [pointwise, pay10_at]
  show (if BitVec.ofBool (decide (BitVec.ofNat 32 (2048 * (i 0).val + p.val) = v28 (ix2 0 l))) = 1#1 then _ else _) = _
  by_cases h : BitVec.ofNat 32 (2048 * (i 0).val + p.val) = v28 (ix2 0 l)
  · rw [if_pos h]
    exact if_pos (by rw [decide_eq_true h]; rfl)
  · rw [if_neg h]
    exact if_neg (by rw [decide_eq_false h]; decide)

/-- The tile's logits by sublane. -/
theorem pay13_at (i : grid0.Coords) (v5 : Vec Ideal S2048x1280 .fp8e4m3) (v7 : Vec Ideal S512x1280 .fp8e4m3)
    (v10 : Vec Ideal S2048x1 .f32) (v16 : Vec Ideal S1x512 .f32) (b : Fin 256) (s : Fin 8) (l : Fin 512) :
    k0_pay13 i v5 v7 v10 v16 (ix3 b s l) = k0_pay11 i v5 v7 v10 v16 (ix2 (⟨8 * b.val + s.val, by omega⟩ : Fin 2048) l) := by
  unfold k0_pay13
  simp only [pointwise]
  exact congrArg (k0_pay11 i v5 v7 v10 v16) (congrArg (ix2 · l) (Fin.ext (by show b.val * 8 + s.val = 8 * b.val + s.val; omega)))

end Cert.KernelIdeal.Hand

end

end
-- ==== Proof.KTile.lean ====
/- What the input windows of the `head` kernel hold at a grid point, element by element, and the tile of logits a point computes. -/
module

public import proofs.«01_k».proof.Proof.KRun
public import proofs.«01_k».proof.Proof.KPay

@[expose] public section

set_option maxRecDepth 16384

noncomputable section

open scoped BigOperators
open Idealize.ShloMosaic Idealize.ShloMosaic.TcCoe

namespace Cert.KernelIdeal.Hand

open Cert.KernelIdeal Cert.KernelIdeal.Gen
open Idealize.ShloMosaic.Pipeline (Window Clip)

variable (m : (ℓ : Loc nD τ sig) → Buf (Elt Ideal) ℓ) (c : Dev nD)

/-- The vocabulary matrix as the kernel's region finds it. -/
def arrW : Vec Ideal S50260x1280 .fp8e4m3 := V m c main_v7
/-- The vocabulary scales as the region finds them. -/
def arrS : Vec Ideal S50257x1 .f32 := V m c main_v8
/-- The contexts' codes as the region finds them. -/
def arrC : Vec Ideal S16384x1280 .fp8e4m3 := V m c main_v9
/-- The contexts' scales as the region finds them. -/
def arrX : Vec Ideal S1x16384 .f32 := V m c main_v1
/-- The targets as the region finds them. -/
def arrT : Vec Ideal S1x16384 .i32 := V m c main_v5

/-- A coordinate of a block that starts inside the array and lies inside it is moved by the clipped transfer. -/
theorem lt_extent {x k d p : ℕ} (hp : p < k) (h : x * k + p < d) : p < (Clip.of x k d).extent k := by
  unfold Clip.of
  split
  · exact hp
  · show p < d - x * k
    omega

/-- A grid coordinate as a 32-bit word. -/
theorem word_coord (n : ℕ) (h : n < 100) : (BitVec.ofNat 32 n).toNat = n := by
  rw [BitVec.toNat_ofNat]; omega

theorem coord0_lt (i : grid0.Coords) : (i 0).val < 25 := (i 0).isLt
theorem coord1_lt (i : grid0.Coords) : (i 1).val < 32 := (i 1).isLt

/-- The vocabulary window at a point: rows `2048 i₀ + p`, where the array has them. -/
theorem ftc0_at (t : Fin cfg0.N) (d) (p : Fin 2048) (k : Fin 1280) (h : 2048 * (grid0.coords t 0).val + p.val < 50260) :
    (ftc m c 0 t d : Vec Ideal S2048x1280 .fp8e4m3) (ix2 p k) = arrW m c (ix2 ⟨2048 * (grid0.coords t 0).val + p.val, h⟩ k) := by
  have hw : cc0_transform_0 (grid0.coords t) 0 = (grid0.coords t 0).val :=
    word_coord _ (by have := coord0_lt (grid0.coords t); omega)
  have hm : (cfg0.win 0).moved (cfg0.grid.coords t) (ix2 p k) = true := ((cfg0.win 0).moved_iff _ _).mpr fun a => by
    match a with
    | ⟨0, _⟩ =>
      have h0 : p.val < (Clip.of (cc0_transform_0 (grid0.coords t) 0) 2048 50260).extent 2048 :=
        lt_extent p.isLt (by rw [hw]; omega)
      exact h0
    | ⟨1, _⟩ =>
      have h1 : k.val < (Clip.of (cc0_transform_0 (grid0.coords t) 1) 1280 1280).extent 1280 :=
        lt_extent k.isLt (by show 0 * 1280 + k.val < 1280; have := k.isLt; omega)
      exact h1
  unfold ftc Window.fill
  rw [dif_pos hm, View.read_apply]
  refine congrArg (arrW m c) ?_
  funext a
  apply Fin.ext
  match a with
  | ⟨0, _⟩ =>
    show cc0_transform_0 (grid0.coords t) 0 * 2048 + 1 * p.val = 2048 * (grid0.coords t 0).val + p.val
    rw [hw]; omega
  | ⟨1, _⟩ =>
    show 0 * 1280 + 1 * k.val = k.val
    omega

/-- The vocabulary scales' window at a point: rows `2048 i₀ + p`, where the array has them. -/
theorem ftc1_at (t : Fin cfg0.N) (d) (p : Fin 2048) (h : 2048 * (grid0.coords t 0).val + p.val < 50257) :
    (ftc m c 1 t d : Vec Ideal S2048x1 .f32) (ix2 p 0) = arrS m c (ix2 ⟨2048 * (grid0.coords t 0).val + p.val, h⟩ 0) := by
  have hw : cc0_transform_1 (grid0.coords t) 0 = (grid0.coords t 0).val :=
    word_coord _ (by have := coord0_lt (grid0.coords t); omega)
  have hm : (cfg0.win 1).moved (cfg0.grid.coords t) (ix2 p 0) = true := ((cfg0.win 1).moved_iff _ _).mpr fun a => by
    match a with
    | ⟨0, _⟩ =>
      have h0 : p.val < (Clip.of (cc0_transform_1 (grid0.coords t) 0) 2048 50257).extent 2048 :=
        lt_extent p.isLt (by rw [hw]; omega)
      exact h0
    | ⟨1, _⟩ =>
      have h1 : 0 < (Clip.of (cc0_transform_1 (grid0.coords t) 1) 1 1).extent 1 :=
        lt_extent Nat.zero_lt_one (by show 0 * 1 + 0 < 1; omega)
      exact h1
  unfold ftc Window.fill
  rw [dif_pos hm, View.read_apply]
  refine congrArg (arrS m c) ?_
  funext a
  apply Fin.ext
  match a with
  | ⟨0, _⟩ =>
    show cc0_transform_1 (grid0.coords t) 0 * 2048 + 1 * p.val = 2048 * (grid0.coords t 0).val + p.val
    rw [hw]; omega
  | ⟨1, _⟩ => rfl

/-- The lane of a row tile in the whole row axis. -/
def lane (i : grid0.Coords) (l : Fin 512) : Fin 16384 :=
  ⟨512 * (i 1).val + l.val, by have := coord1_lt i; have := l.isLt; omega⟩

/-- The contexts' window at a point: rows `512 i₁ + l`. -/
theorem ftc2_at (t : Fin cfg0.N) (d) (l : Fin 512) (k : Fin 1280) :
    (ftc m c 2 t d : Vec Ideal S512x1280 .fp8e4m3) (ix2 l k) = arrC m c (ix2 (lane (grid0.coords t) l) k) := by
  have hw : cc0_transform_2 (grid0.coords t) 0 = (grid0.coords t 1).val :=
    word_coord _ (by have := coord1_lt (grid0.coords t); omega)
  refine congrArg (arrC m c) ?_
  funext a
  apply Fin.ext
  match a with
  | ⟨0, _⟩ =>
    show cc0_transform_2 (grid0.coords t) 0 * 512 + 1 * l.val = 512 * (grid0.coords t 1).val + l.val
    rw [hw]; omega
  | ⟨1, _⟩ =>
    show 0 * 1280 + 1 * k.val = k.val
    omega

/-- The contexts' scales at a point: lanes `512 i₁ + l`. -/
theorem ftc3_at (t : Fin cfg0.N) (d) (l : Fin 512) :
    (ftc m c 3 t d : Vec Ideal S1x512 .f32) (ix2 0 l) = arrX m c (ix2 0 (lane (grid0.coords t) l)) := by
  have hw : cc0_transform_3 (grid0.coords t) 1 = (grid0.coords t 1).val :=
    word_coord _ (by have := coord1_lt (grid0.coords t); omega)
  refine congrArg (arrX m c) ?_
  funext a
  apply Fin.ext
  match a with
  | ⟨0, _⟩ => rfl
  | ⟨1, _⟩ =>
    show cc0_transform_3 (grid0.coords t) 1 * 512 + 1 * l.val = 512 * (grid0.coords t 1).val + l.val
    rw [hw]; omega

/-- The targets at a point: lanes `512 i₁ + l`. -/
theorem ftc4_at (t : Fin cfg0.N) (d) (l : Fin 512) :
    (ftc m c 4 t d : Vec Ideal S1x512 .i32) (ix2 0 l) = arrT m c (ix2 0 (lane (grid0.coords t) l)) := by
  have hw : cc0_transform_4 (grid0.coords t) 1 = (grid0.coords t 1).val :=
    word_coord _ (by have := coord1_lt (grid0.coords t); omega)
  refine congrArg (arrT m c) ?_
  funext a
  apply Fin.ext
  match a with
  | ⟨0, _⟩ => rfl
  | ⟨1, _⟩ =>
    show cc0_transform_4 (grid0.coords t) 1 * 512 + 1 * l.val = 512 * (grid0.coords t 1).val + l.val
    rw [hw]; omega

/-! ## The logits -/

/-- The logit of vocabulary entry `v` for row `j`. -/
def logit (j : Fin 16384) (v : Fin 50257) : EReal :=
  (∑ k : Fin 1280, arrW m c (ix2 (v.castLE (by norm_num)) k) * arrC m c (ix2 j k)) * (arrS m c (ix2 v 0) * arrX m c (ix2 0 j))

/-- The kernel's logit in the base-2 domain, masked beyond the vocabulary. -/
def logit2 (j : Fin 16384) (v : ℕ) : EReal := if h : v < 50257 then logit m c j ⟨v, h⟩ * log2e else ⊥

/-- The kernel's summand of the target logit. -/
def target2 (j : Fin 16384) (v : ℕ) : EReal := if BitVec.ofNat 32 v = arrT m c (ix2 0 j) then logit2 m c j v else 0

section Tile
variable (t : Fin cfg0.N) (d0 : (cfg0.win 0).block.Idx → Elt Ideal (cfg0.win 0).elt) (d1 : (cfg0.win 1).block.Idx → Elt Ideal (cfg0.win 1).elt)
  (d2 : (cfg0.win 2).block.Idx → Elt Ideal (cfg0.win 2).elt) (d3 : (cfg0.win 3).block.Idx → Elt Ideal (cfg0.win 3).elt)
  (d4 : (cfg0.win 4).block.Idx → Elt Ideal (cfg0.win 4).elt)

/-- The tile of logits computed at a point. -/
theorem tile_at (p : Fin 2048) (l : Fin 512) :
    k0_pay11 (grid0.coords t) (ftc m c 0 t d0) (ftc m c 2 t d2) (ftc m c 1 t d1) (ftc m c 3 t d3) (ix2 p l)
      = logit2 m c (lane (grid0.coords t) l) (2048 * (grid0.coords t 0).val + p.val) := by
  rw [pay11_at]
  unfold logit2
  by_cases h : 2048 * (grid0.coords t 0).val + p.val < 50257
  · rw [if_pos h, dif_pos h]
    unfold logit
    refine Eq.trans (b := (∑ k : Fin 1280, arrW m c (ix2 ((⟨2048 * (grid0.coords t 0).val + p.val, h⟩ : Fin 50257).castLE (by norm_num)) k)
            * arrC m c (ix2 (lane (grid0.coords t) l) k)) * (arrS m c (ix2 ⟨2048 * (grid0.coords t 0).val + p.val, h⟩ 0) * log2e)
            * arrX m c (ix2 0 (lane (grid0.coords t) l))) ?_ ?_
    · refine congrArg₂ (· * ·) (congrArg₂ (· * ·) (Finset.sum_congr rfl fun k _ => congrArg₂ (fun a b : EReal => a * b) (ftc0_at m c t d0 p k (by omega)) (ftc2_at m c t d2 l k)) (congrArg (· * log2e) (ftc1_at m c t d1 p h))) (ftc3_at m c t d3 l)
    · generalize (∑ k : Fin 1280, _ : EReal) = A
      simp only [mul_assoc]
      rw [mul_comm log2e]
  · rw [if_neg h, dif_neg h]

/-- The tile of the target's summands computed at a point. -/
theorem target_at (p : Fin 2048) (l : Fin 512) :
    k0_pay12 (grid0.coords t) (ftc m c 0 t d0) (ftc m c 2 t d2) (ftc m c 1 t d1) (ftc m c 3 t d3) (ftc m c 4 t d4) (ix2 p l)
      = target2 m c (lane (grid0.coords t) l) (2048 * (grid0.coords t 0).val + p.val) := by
  rw [pay12_at, tile_at, show (ftc m c 4 t d4 : Vec Ideal S1x512 .i32) (ix2 0 l) = _ from ftc4_at m c t d4 l]
  rfl

end Tile

end Cert.KernelIdeal.Hand

end

end
-- ==== Proof.KValue.lean ====
/- The value of the `head` kernel: what the scratch buffers hold between grid points, and what the results hold at the end. -/
module

public import proofs.«01_k».proof.Proof.KTile
public import proofs.«01_k».proof.Proof.Math
public import proofs.«01_k».proof.Proof.Gen.KernelIdeal.Points
public import Idealize.ShloMosaic.Lib.Pipeline.ArrRel
public import Idealize.ShloMosaic.Lib.Pipeline.Value

@[expose] public section

set_option maxRecDepth 16384

noncomputable section

open scoped BigOperators
open Idealize.ShloMosaic Idealize.ShloMosaic.TcCoe Idealize.SL.Sem

namespace Cert.KernelIdeal.Hand

open Cert.KernelIdeal Cert.KernelIdeal.Gen Cert.Math
open Idealize.ShloMosaic.Pipeline (Window Clip Dat RDat)

variable (m : (ℓ : Loc nD τ sig) → Buf (Elt Ideal) ℓ) (c : Dev nD)

/-! ## The grid and the blocks of the scratch buffers -/

/-- The vocabulary tile of a point, -/
theorem coords0 (t : Fin cfg0.N) : (grid0.coords t 0).val = t.val / 32 := by
  have h := Pipeline.Grid.coords_val (G := grid0) t 0 (S := 32) (B := 25) (by decide) rfl
  have ht : t.val < 800 := t.isLt
  omega
/-- and its row tile. -/
theorem coords1 (t : Fin cfg0.N) : (grid0.coords t 1).val = t.val % 32 := by
  have h := Pipeline.Grid.coords_val (G := grid0) t 1 (S := 1) (B := 32) (by decide) rfl
  omega

/-- The row tile's block reads the buffer at the tile's lanes. -/
theorem blk_at (i : grid0.Coords) (x : Vec Ideal S8x16384 .f32) (s : Fin 8) (l : Fin 512) :
    blk i x (ix2 s l) = x (ix2 s (lane i l)) := by
  refine congrArg x (funext fun a => Fin.ext ?_)
  match a with
  | ⟨0, _⟩ => show 0 + 1 * s.val = s.val; omega
  | ⟨1, _⟩ => show 512 * (i 1).val + 1 * l.val = 512 * (i 1).val + l.val; omega

/-- A lane of the row tile reads the block put there. -/
theorem upd_in (i : grid0.Coords) (x : Vec Ideal S8x16384 .f32) (w : Vec Ideal S8x512 .f32) (s : Fin 8) (l : Fin 512) :
    upd i x w (ix2 s (lane i l)) = w (ix2 s l) := by
  have h := congrFun (VecWindow.window_put_same (s := S8x16384) x (off i) S8x512.size (off_inb i) w) (ix2 s l)
  exact (blk_at i (upd i x w) s l).symm.trans h

/-- Every other lane reads what was there. -/
theorem upd_out (i : grid0.Coords) (x : Vec Ideal S8x16384 .f32) (w : Vec Ideal S8x512 .f32) (s : Fin 8) (j : Fin 16384)
    (h : j.val / 512 ≠ (i 1).val) : upd i x w (ix2 s j) = x (ix2 s j) := by
  refine dif_neg fun hall => h ?_
  have h1 : 512 * (i 1).val ≤ j.val ∧ j.val < 512 * (i 1).val + 512 := hall 1
  omega

/-- Every lane of the row tile is the tile's lane of its remainder. -/
theorem eq_lane (i : grid0.Coords) (j : Fin 16384) (h : j.val / 512 = (i 1).val) :
    j = lane i ⟨j.val % 512, Nat.mod_lt _ (by norm_num)⟩ := by
  apply Fin.ext
  show j.val = 512 * (i 1).val + j.val % 512
  omega

/-! ## One point's accumulation -/

section Step
variable (t : Fin cfg0.N) (d0 : (cfg0.win 0).block.Idx → Elt Ideal (cfg0.win 0).elt) (d1 : (cfg0.win 1).block.Idx → Elt Ideal (cfg0.win 1).elt)
  (d2 : (cfg0.win 2).block.Idx → Elt Ideal (cfg0.win 2).elt) (d3 : (cfg0.win 3).block.Idx → Elt Ideal (cfg0.win 3).elt)
  (d4 : (cfg0.win 4).block.Idx → Elt Ideal (cfg0.win 4).elt)
  (M L T : Vec Ideal S8x16384 .f32) (s : Fin 8) (l : Fin 512)

/-- The tile of logits split in sublanes. -/
theorem tile3_at (b : Fin 256) :
    k0_pay13 (grid0.coords t) (ftc m c 0 t d0) (ftc m c 2 t d2) (ftc m c 1 t d1) (ftc m c 3 t d3) (ix3 b s l)
      = logit2 m c (lane (grid0.coords t) l) (2048 * (grid0.coords t 0).val + (8 * b.val + s.val)) := by
  rw [pay13_at]; exact tile_at m c t d0 d1 d2 d3 _ l

/-- What a block holds when a point's accumulation starts, from what is known of the buffer after the earlier vocabulary tiles. -/
theorem ent_at (z : Vec Ideal S8x512 .f32) (x : Vec Ideal S8x16384 .f32) (R : ℕ → EReal) (i : grid0.Coords)
    (hz : z (ix2 s l) = R 0) (hx : 0 < (i 0).val → x (ix2 s (lane i l)) = R (i 0).val) : ent i z x (ix2 s l) = R (i 0).val := by
  by_cases h : k0_cond1 i = 1#1
  · rw [ent_pos h, (cond1_iff i).mp h]; exact hz
  · rw [ent_neg h, blk_at]
    exact hx (Nat.pos_of_ne_zero fun e => h ((cond1_iff i).mpr e))

/-- The running maximum after a point, over one more vocabulary tile. -/
theorem newM_at (hM : 0 < (grid0.coords t 0).val → M (ix2 s (lane (grid0.coords t) l))
      = runMax (logit2 m c (lane (grid0.coords t) l)) (grid0.coords t 0).val s.val) :
    newM (grid0.coords t) (ftc m c 0 t d0) (ftc m c 1 t d1) (ftc m c 2 t d2) (ftc m c 3 t d3) M (ix2 s l)
      = runMax (logit2 m c (lane (grid0.coords t) l)) ((grid0.coords t 0).val + 1) s.val := by
  unfold newM
  rw [pay4_at, ent_at s l (k0_pay7 (F := Ideal)) M (fun n => runMax (logit2 m c (lane (grid0.coords t) l)) n s.val) _ (by rw [pay7_at, runMax_zero]) hM,
    ← runMax_succ]
  refine congrArg (max _) (congrArg (Finset.sup Finset.univ) (funext fun b => ?_))
  exact tile3_at m c t d0 d1 d2 d3 s l b

/-- The running sum of exponentials after a point. -/
theorem newL_at (hM : 0 < (grid0.coords t 0).val → M (ix2 s (lane (grid0.coords t) l))
      = runMax (logit2 m c (lane (grid0.coords t) l)) (grid0.coords t 0).val s.val)
    (hL : 0 < (grid0.coords t 0).val → L (ix2 s (lane (grid0.coords t) l))
      = runSum (logit2 m c (lane (grid0.coords t) l)) (grid0.coords t 0).val s.val) :
    newL (grid0.coords t) (ftc m c 0 t d0) (ftc m c 1 t d1) (ftc m c 2 t d2) (ftc m c 3 t d3) M L (ix2 s l)
      = runSum (logit2 m c (lane (grid0.coords t) l)) ((grid0.coords t 0).val + 1) s.val := by
  have hm := newM_at m c t d0 d1 d2 d3 M s l hM
  unfold newM at hm
  rw [pay4_at, ← pay2_at] at hm
  unfold newL
  rw [pay3_at, ent_at s l (k0_pay7 (F := Ideal)) M (fun n => runMax (logit2 m c (lane (grid0.coords t) l)) n s.val) _ (by rw [pay7_at, runMax_zero]) hM,
    ent_at s l (k0_pay8 (F := Ideal)) L (fun n => runSum (logit2 m c (lane (grid0.coords t) l)) n s.val) _ (by rw [pay8_at, runSum_zero]) hL,
    ← runSum_succ _ _ _ _ hm]
  refine congrArg (_ + ·) (Finset.sum_congr rfl fun b _ => ?_)
  rw [tile3_at m c t d0 d1 d2 d3 s l b]

/-- The running target logit after a point. -/
theorem newT_at (hT : 0 < (grid0.coords t 0).val → T (ix2 s (lane (grid0.coords t) l))
      = runAdd (target2 m c (lane (grid0.coords t) l)) (grid0.coords t 0).val s.val) :
    newT (grid0.coords t) (ftc m c 0 t d0) (ftc m c 1 t d1) (ftc m c 2 t d2) (ftc m c 3 t d3) (ftc m c 4 t d4) T (ix2 s l)
      = runAdd (target2 m c (lane (grid0.coords t) l)) ((grid0.coords t 0).val + 1) s.val := by
  unfold newT
  rw [pay1_at, ent_at s l (k0_pay9 (F := Ideal)) T (fun n => runAdd (target2 m c (lane (grid0.coords t) l)) n s.val) _ (by rw [pay9_at, runAdd_zero]) hT,
    ← runAdd_succ]
  refine congrArg (_ + ·) (Finset.sum_congr rfl fun b _ => ?_)
  exact target_at m c t d0 d1 d2 d3 d4 _ l

end Step

/-! ## The values -/

/-- The logsumexp of a row's logits. -/
def lseVal (j : Fin 16384) : EReal :=
  (Finset.univ.sup (logit m c j)) + Ideal.log (∑ v, Ideal.exp (logit m c j v - Finset.univ.sup (logit m c j)))

/-- The target's logit of a row. -/
def ztVal (j : Fin 16384) : EReal :=
  ∑ v : Fin 50257, if BitVec.ofNat 32 v.val = arrT m c (ix2 0 j) then logit m c j v else 0

/-- The lane partial results over all 25 vocabulary tiles give the logsumexp. -/
theorem lse_of_run (j : Fin 16384) :
    (Finset.univ.sup fun s : Fin 8 => runMax (logit2 m c j) 25 s.val) * ln2
        + Ideal.log (∑ s : Fin 8, runSum (logit2 m c j) 25 s.val
            * Ideal.exp2 (runMax (logit2 m c j) 25 s.val - Finset.univ.sup fun s : Fin 8 => runMax (logit2 m c j) 25 s.val)) = lseVal m c j :=
  logsumexp (logit2 m c j) 50257 25 (by norm_num) (logit m c j) (fun v => dif_pos v.isLt) (fun v hv => dif_neg (by omega))

/-- The lane partial sums over all 25 vocabulary tiles give the target's logit, where the target is an entry of the vocabulary. -/
theorem zt_of_run (j : Fin 16384) (hT : (arrT m c (ix2 0 j)).toInt < 50257) :
    (∑ s : Fin 8, runAdd (target2 m c j) 25 s.val) * ln2 = ztVal m c j := by
  refine addAll (target2 m c j) 50257 25 (by norm_num) (fun v => if BitVec.ofNat 32 v.val = arrT m c (ix2 0 j) then logit m c j v else 0)
    (fun v => ?_) (fun v hv hv' => ?_)
  · show (if _ then _ else _) = (if _ then _ else _) * log2e
    split
    · exact dif_pos v.isLt
    · rw [zero_mul]
  · refine if_neg fun e => ?_
    rw [← e] at hT
    have ht : (BitVec.ofNat 32 v).toNat = v := by rw [BitVec.toNat_ofNat]; omega
    rw [BitVec.toInt_eq_toNat_of_lt (by rw [ht]; omega), ht] at hT
    omega

/-! ## The invariant -/

/-- The vocabulary tiles a lane has seen before point `t`. -/
def seen (t : ℕ) (j : Fin 16384) : ℕ := (t + 31 - j.val / 512) / 32

theorem seen_here (t : ℕ) (j : Fin 16384) (h : j.val / 512 = t % 32) : seen t j = t / 32 ∧ seen (t + 1) j = t / 32 + 1 := by
  unfold seen; omega

theorem seen_else (t : ℕ) (j : Fin 16384) (h : j.val / 512 ≠ t % 32) : seen (t + 1) j = seen t j := by
  have := j.isLt
  unfold seen; omega

/-- Between points each lane of the scratch buffers holds its running maximum, sum and target sum over the tiles it has seen;
    after a point of the last vocabulary tile the results' blocks hold the logsumexp and the target's logit. -/
def track : Track Ideal where
  inv c t M L T := ∀ (j : Fin 16384) (s : Fin 8), 0 < seen t.val j →
    M (ix2 s j) = runMax (logit2 m c j) (seen t.val j) s.val
    ∧ L (ix2 s j) = runSum (logit2 m c j) (seen t.val j) s.val
    ∧ T (ix2 s j) = runAdd (target2 m c j) (seen t.val j) s.val
  res5 c t X := t.val / 32 = 24 → ∀ l : Fin 512, X (ix2 0 l) = lseVal m c (lane (grid0.coords t) l)
  res6 c t X := t.val / 32 = 24 → ∀ l : Fin 512, X (ix2 0 l) = ztVal m c (lane (grid0.coords t) l)

theorem track_holds (hT : ∀ c j, (arrT m c (ix2 0 j)).toInt < 50257) : (track m).Holds m where
  start c M L T j s h := by
    exfalso
    have hj := j.isLt
    have h' : 0 < (0 + 31 - j.val / 512) / 32 := h
    omega
  step c t d0 d1 d2 d3 d4 M L T y5 y6 hinv := by
    have e0 := coords0 t
    have e1 := coords1 t
    have hin : ∀ (l : Fin 512) (s : Fin 8), 0 < (grid0.coords t 0).val →
        M (ix2 s (lane (grid0.coords t) l)) = runMax (logit2 m c (lane (grid0.coords t) l)) (grid0.coords t 0).val s.val
        ∧ L (ix2 s (lane (grid0.coords t) l)) = runSum (logit2 m c (lane (grid0.coords t) l)) (grid0.coords t 0).val s.val
        ∧ T (ix2 s (lane (grid0.coords t) l)) = runAdd (target2 m c (lane (grid0.coords t) l)) (grid0.coords t 0).val s.val := by
      intro l s hc
      have hl : (lane (grid0.coords t) l).val / 512 = t.val % 32 := by
        rw [← e1]; show (512 * (grid0.coords t 1).val + l.val) / 512 = _; have := l.isLt; omega
      have hs := (seen_here t.val _ hl).1
      have h := hinv (lane (grid0.coords t) l) s
      rw [show (t.castSucc : Fin (cfg0.N + 1)).val = t.val from rfl, hs, ← e0] at h
      exact h hc
    have hM := fun (l : Fin 512) (s : Fin 8) => newM_at m c t d0 d1 d2 d3 M s l fun h => (hin l s h).1
    have hL := fun (l : Fin 512) (s : Fin 8) => newL_at m c t d0 d1 d2 d3 M L s l (fun h => (hin l s h).1) (fun h => (hin l s h).2.1)
    have hA := fun (l : Fin 512) (s : Fin 8) => newT_at m c t d0 d1 d2 d3 d4 T s l fun h => (hin l s h).2.2
    refine ⟨fun j s hj => ?_, fun ht l => ?_, fun ht l => ?_⟩
    · by_cases h : j.val / 512 = (grid0.coords t 1).val
      · have hs : seen t.succ.val j = (grid0.coords t 0).val + 1 := by
          rw [e0]; exact (seen_here t.val j (h.trans e1)).2
        rw [hs, eq_lane (grid0.coords t) j h, upd_in, upd_in, upd_in]
        exact ⟨hM _ s, hL _ s, hA _ s⟩
      · have hs : seen t.succ.val j = seen t.castSucc.val j := seen_else t.val j fun e => h (e.trans e1.symm)
        rw [hs] at hj ⊢
        rw [upd_out _ _ _ _ _ h, upd_out _ _ _ _ _ h, upd_out _ _ _ _ _ h]
        exact hinv j s hj
    · have h2 : k0_cond2 (grid0.coords t) = 1#1 := (cond2_iff _).mpr (e0.trans ht)
      unfold out5
      rw [if_pos h2, pay5_at, ← lse_of_run]
      simp only [hM l, hL l, e0, ht]
    · have h2 : k0_cond2 (grid0.coords t) = 1#1 := (cond2_iff _).mpr (e0.trans ht)
      unfold out6
      rw [if_pos h2, pay6_at, ← zt_of_run m c _ (hT c _)]
      simp only [hA l, e0, ht]

/-! ## The results at the end -/

/-- A point's block of the first result: row 0, lanes `512 r + l`. -/
theorem emb5 (t : Fin cfg0.N) (y : ((cfg0.win 5).xblock (grid0.coords t)).Idx) :
    ((cfg0.win 5).blk t).view.emb y = (ix2 0 (lane (grid0.coords t) ⟨(y 1).val, (y 1).isLt⟩) : S1x16384.Idx) := by
  have hw : cc0_transform_5 (grid0.coords t) 1 = (grid0.coords t 1).val :=
    word_coord _ (by have := coord1_lt (grid0.coords t); omega)
  funext a
  apply Fin.ext
  match a with
  | ⟨0, _⟩ =>
    show 0 * 1 + 1 * (y 0).val = 0
    have : (y 0).val < 1 := (y 0).isLt
    omega
  | ⟨1, _⟩ =>
    show cc0_transform_5 (grid0.coords t) 1 * 512 + 1 * (y 1).val = 512 * (grid0.coords t 1).val + (y 1).val
    rw [hw]; omega

/-- A point's block of the second result: row 0, lanes `512 r + l`. -/
theorem emb6 (t : Fin cfg0.N) (y : ((cfg0.win 6).xblock (grid0.coords t)).Idx) :
    ((cfg0.win 6).blk t).view.emb y = (ix2 0 (lane (grid0.coords t) ⟨(y 1).val, (y 1).isLt⟩) : S1x16384.Idx) := by
  have hw : cc0_transform_6 (grid0.coords t) 1 = (grid0.coords t 1).val :=
    word_coord _ (by have := coord1_lt (grid0.coords t); omega)
  funext a
  apply Fin.ext
  match a with
  | ⟨0, _⟩ =>
    show 0 * 1 + 1 * (y 0).val = 0
    have : (y 0).val < 1 := (y 0).isLt
    omega
  | ⟨1, _⟩ =>
    show cc0_transform_6 (grid0.coords t) 1 * 512 + 1 * (y 1).val = 512 * (grid0.coords t 1).val + (y 1).val
    rw [hw]; omega

section Final
variable (dat : Dat τ (Elt Ideal) Unit ℕ (UR sig nD τ) ℕ cfg0 c) (val : Fin 16384 → EReal)

/-- The first result after the run, from what the points of the last vocabulary tile write: they write every lane last. -/
theorem final5 (h : ∀ t : Fin cfg0.N, t.val / 32 = 24 → ∀ l : Fin 512, (dat.after 5 t : Vec Ideal S1x512 .f32) (ix2 0 l) = val (lane (grid0.coords t) l)) :
    ∀ (n : ℕ) (j : Fin 16384), n ≤ 800 → 768 + j.val / 512 < n → (dat.arrAt 5 n : Vec Ideal S1x16384 .f32) (ix2 0 j) = val j
  | 0, _, _, hn => absurd hn (Nat.not_lt_zero _)
  | n + 1, j, hN, hn => by
    have hlt : n < cfg0.N := by show n < 800; omega
    rw [dat.arrAt_succ_apply, dif_pos hlt, if_pos (flush0_5 ⟨n, hlt⟩)]
    by_cases hin : (ix2 0 j : S1x16384.Idx) ∈ ((cfg0.win 5).blk ⟨n, hlt⟩).view.set
    · obtain ⟨y, -, hy⟩ := Finset.mem_map.mp hin
      rw [← hy, View.write_emb_of_mem _ _ (Finset.mem_univ y)]
      have e := (emb5 ⟨n, hlt⟩ y).symm.trans hy
      have ej : lane (grid0.coords ⟨n, hlt⟩) ⟨(y 1).val, (y 1).isLt⟩ = j := congrFun e 1
      rw [← ej, ← h ⟨n, hlt⟩ (by show n / 32 = 24; omega)]
      show dat.after 5 ⟨n, hlt⟩ _ = dat.after 5 ⟨n, hlt⟩ _
      refine congrArg (dat.after 5 ⟨n, hlt⟩) (funext fun a => Fin.ext ?_)
      match a with
      | ⟨0, _⟩ => have : (y 0).val < 1 := (y 0).isLt; show (y 0).val = 0; omega
      | ⟨1, _⟩ => rfl
    · rw [View.write_of_not_mem _ _ _ (by rwa [View.setOn_univ])]
      refine final5 h n j (by omega) ?_
      have hne : j.val / 512 ≠ n % 32 := fun e => by
        refine hin ?_
        have ec : j.val / 512 = (grid0.coords ⟨n, hlt⟩ 1).val := e.trans (coords1 ⟨n, hlt⟩).symm
        have hj := eq_lane (grid0.coords ⟨n, hlt⟩) j ec
        refine Finset.mem_map.mpr ⟨(ix2 0 ⟨j.val % 512, Nat.mod_lt _ (by norm_num)⟩ : S1x512.Idx), Finset.mem_univ _, ?_⟩
        refine (emb5 ⟨n, hlt⟩ (ix2 0 ⟨j.val % 512, Nat.mod_lt _ (by norm_num)⟩ : S1x512.Idx)).trans ?_
        exact congrArg (ix2 0) hj.symm
      have := j.isLt
      omega

/-- The second result after the run, likewise. -/
theorem final6 (h : ∀ t : Fin cfg0.N, t.val / 32 = 24 → ∀ l : Fin 512, (dat.after 6 t : Vec Ideal S1x512 .f32) (ix2 0 l) = val (lane (grid0.coords t) l)) :
    ∀ (n : ℕ) (j : Fin 16384), n ≤ 800 → 768 + j.val / 512 < n → (dat.arrAt 6 n : Vec Ideal S1x16384 .f32) (ix2 0 j) = val j
  | 0, _, _, hn => absurd hn (Nat.not_lt_zero _)
  | n + 1, j, hN, hn => by
    have hlt : n < cfg0.N := by show n < 800; omega
    rw [dat.arrAt_succ_apply, dif_pos hlt, if_pos (flush0_6 ⟨n, hlt⟩)]
    by_cases hin : (ix2 0 j : S1x16384.Idx) ∈ ((cfg0.win 6).blk ⟨n, hlt⟩).view.set
    · obtain ⟨y, -, hy⟩ := Finset.mem_map.mp hin
      rw [← hy, View.write_emb_of_mem _ _ (Finset.mem_univ y)]
      have e := (emb6 ⟨n, hlt⟩ y).symm.trans hy
      have ej : lane (grid0.coords ⟨n, hlt⟩) ⟨(y 1).val, (y 1).isLt⟩ = j := congrFun e 1
      rw [← ej, ← h ⟨n, hlt⟩ (by show n / 32 = 24; omega)]
      show dat.after 6 ⟨n, hlt⟩ _ = dat.after 6 ⟨n, hlt⟩ _
      refine congrArg (dat.after 6 ⟨n, hlt⟩) (funext fun a => Fin.ext ?_)
      match a with
      | ⟨0, _⟩ => have : (y 0).val < 1 := (y 0).isLt; show (y 0).val = 0; omega
      | ⟨1, _⟩ => rfl
    · rw [View.write_of_not_mem _ _ _ (by rwa [View.setOn_univ])]
      refine final6 h n j (by omega) ?_
      have hne : j.val / 512 ≠ n % 32 := fun e => by
        refine hin ?_
        have ec : j.val / 512 = (grid0.coords ⟨n, hlt⟩ 1).val := e.trans (coords1 ⟨n, hlt⟩).symm
        have hj := eq_lane (grid0.coords ⟨n, hlt⟩) j ec
        refine Finset.mem_map.mpr ⟨(ix2 0 ⟨j.val % 512, Nat.mod_lt _ (by norm_num)⟩ : S1x512.Idx), Finset.mem_univ _, ?_⟩
        refine (emb6 ⟨n, hlt⟩ (ix2 0 ⟨j.val % 512, Nat.mod_lt _ (by norm_num)⟩ : S1x512.Idx)).trans ?_
        exact congrArg (ix2 0) hj.symm
      have := j.isLt
      omega
end Final

/-- The run of the kernel: the results end at the logsumexp and the target's logit of every row, the arguments unchanged. -/
theorem run_value (ρ : Dev nD → PrngReg) (hT : ∀ c j, (arrT m c (ix2 0 j)).toInt < 50257) :
    θ_run defs (onTc (τ := τ) (main (F := Ideal))) ⟨m, fun _ => 0, ρ⟩ (fun r => ∀ c : Dev nD,
      r.2.mem ((c.tc : Thread nD τ).loc main_v10_0) = (fun i : S1x16384.Idx => lseVal m c (i 1))
      ∧ r.2.mem ((c.tc : Thread nD τ).loc main_v10_1) = (fun i : S1x16384.Idx => ztVal m c (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ (track m) (track_holds m hT))
  obtain ⟨after, hL, hA⟩ := RDat.FramePost.exists_exact h.1 c
  have idx : ∀ i : S1x16384.Idx, i = ix2 0 (i 1) := fun i => funext fun a => Fin.ext (by
    match a with
    | ⟨0, _⟩ => have : (i 0).val < 1 := (i 0).isLt; show (i 0).val = 0; omega
    | ⟨1, _⟩ => rfl)
  refine ⟨(hA 5).trans (funext fun i => ?_), (hA 6).trans (funext fun i => ?_), unchanged_of (track m) r h.1 c⟩
  · refine (congrArg (((rdat m (track m) c).withAfter after).arrAt 5 cfg0.N : Vec Ideal S1x16384 .f32) (idx i)).trans ?_
    refine final5 c _ (lseVal m c) (fun t ht l => ?_) 800 (i 1) le_rfl (by have : (i 1).val < 16384 := (i 1).isLt; omega)
    obtain ⟨Y, -, hX⟩ := hL 5 t (flush0_5 t)
    rw [after5] at hX
    exact hX ht l
  · refine (congrArg (((rdat m (track m) c).withAfter after).arrAt 6 cfg0.N : Vec Ideal S1x16384 .f32) (idx i)).trans ?_
    refine final6 c _ (ztVal m c) (fun t ht l => ?_) 800 (i 1) le_rfl (by have : (i 1).val < 16384 := (i 1).isLt; omega)
    obtain ⟨Y, -, hX⟩ := hL 6 t (flush0_6 t)
    rw [after6] at hX
    exact hX ht l

end Cert.KernelIdeal.Hand

end

end
-- ==== Proof.RValue.lean ====
/- The value of the plain formula: its results as functions of the arrays its region finds. -/
module

public import proofs.«01_k».proof.Proof.Gen.ReferenceIdeal.Value
public import proofs.«01_k».proof.Proof.Gen.ReferenceIdeal.Skeleton
public import Idealize.ShloMosaic.PureOps.Ideal.Laws
public import Idealize.ShloMosaic.Lib.Pipeline.Value
public import Idealize.ShloMosaic.Lib.Pipeline.ValueKit.Geometry
public import Idealize.ShloMosaic.Lib.Pointwise
public import Idealize.ShloMosaic.Lib.MatmulPlain
public import Idealize.ShloMosaic.Lib.ValueLayoutCasts

@[expose] public section

set_option maxRecDepth 16384

noncomputable section

open scoped BigOperators
open Idealize.ShloMosaic Idealize.ShloMosaic.TcCoe Idealize.SL.Sem

namespace Cert.ReferenceIdeal.Hand

open Cert.ReferenceIdeal Cert.ReferenceIdeal.Gen
open Idealize.ShloMosaic.Pipeline (Dat)

/-! ## The formula's values at an index -/

/-- The word of -∞ is -∞. -/
theorem ofBits_negInf : Ideal.ofBits FTy.f32 4286578688#32 = ⊥ := by simp [Ideal.ofBits, Ideal.ieee]

/-- A maximum folded from -∞ is the supremum. -/
theorem fold_max_eq_sup {ι : Type*} (A : Finset ι) (f : ι → EReal) : A.fold max ⊥ f = A.sup f := rfl

/-- A maximum down the vocabulary. -/
theorem max_at (z : FVec Ideal S50257x16384 .f32) (j : Fin 16384) :
    multiReduction .maximumf [0] S16384 z 0xFF800000#32 reduces_S50257x16384_S16384 (.inl rfl) rfl (ix1 j)
      = Finset.univ.sup fun v : Fin 50257 => z (ix2 v j) := by
  have h : multiReduction .maximumf [0] S16384 z 0xFF800000#32 reduces_S50257x16384_S16384 (.inl rfl) rfl (ix1 j)
      = Finset.fold max (Ideal.ofBits FTy.f32 4286578688#32) (fun k : Fin 50257 => z (ix2 k j)) Finset.univ := by
    simp only [pointwise]
  rw [h, ofBits_negInf]
  exact fold_max_eq_sup _ _

/-- A sum down the vocabulary. -/
theorem sum_at (z : FVec Ideal S50257x16384 .f32) (j : Fin 16384) :
    multiReduction .add [0] S16384 z 0x00000000#32 reduces_S50257x16384_S16384 (.inl rfl) rfl (ix1 j)
      = ∑ v : Fin 50257, z (ix2 v j) := by
  simp only [pointwise, Ideal.reduceAdd_def]

/-- A row of values as a matrix of one row. -/
theorem row_at (z : FVec Ideal S16384 .f32) (j : Fin 16384) : shapeCast S1x16384 z shapeCasts_S16384_S1x16384 (ix2 0 j) = z (ix1 j) := by
  simp only [pointwise]

/-- A row of values repeated down the vocabulary. -/
theorem spread_at (z : FVec Ideal S16384 .f32) (v : Fin 50257) (j : Fin 16384) :
    broadcastTo S50257x16384 (shapeCast S1x16384 z shapeCasts_S16384_S1x16384) broadcasts_S1x16384_S50257x16384 (ix2 v j) = z (ix1 j) := by
  simp only [pointwise]
  rfl

theorem addf_log_at (a b : FVec Ideal S1x16384 .f32) (i : S1x16384.Idx) : addf a (log b) i = (a i : EReal) + Ideal.log (b i) := rfl

theorem exp_sub_at (a b : FVec Ideal S50257x16384 .f32) (i : S50257x16384.Idx) : exp (subf a b) i = Ideal.exp ((a i : EReal) - b i) := rfl

/-- The logsumexp down the vocabulary. -/
theorem lse_at (z : FVec Ideal S50257x16384 .f32) (j : Fin 16384) :
    addf (shapeCast S1x16384 (multiReduction .maximumf [0] S16384 z 0xFF800000#32 reduces_S50257x16384_S16384 (.inl rfl) rfl) shapeCasts_S16384_S1x16384)
      (log (shapeCast S1x16384 (multiReduction .add [0] S16384 (exp (subf z (broadcastTo S50257x16384 (shapeCast S1x16384
        (multiReduction .maximumf [0] S16384 z 0xFF800000#32 reduces_S50257x16384_S16384 (.inl rfl) rfl) shapeCasts_S16384_S1x16384)
        broadcasts_S1x16384_S50257x16384))) 0x00000000#32 reduces_S50257x16384_S16384 (.inl rfl) rfl) shapeCasts_S16384_S1x16384)) (ix2 0 j)
      = (Finset.univ.sup fun v : Fin 50257 => z (ix2 v j))
        + Ideal.log (∑ v : Fin 50257, Ideal.exp (z (ix2 v j) - Finset.univ.sup fun v : Fin 50257 => z (ix2 v j))) := by
  rw [addf_log_at, row_at, row_at, max_at, sum_at]
  simp only [exp_sub_at, spread_at]
  exact congrArg (fun a : EReal => (Finset.univ.sup fun v : Fin 50257 => z (ix2 v j)) + Ideal.log (∑ v : Fin 50257, Ideal.exp (z (ix2 v j) - a)))
    (max_at z j)

section Pay
variable (w : Vec Ideal S50257x1280 .fp8e4m3) (x : Vec Ideal S16384x1280 .fp8e4m3) (s : Vec Ideal S50257x1 .f32) (q : Vec Ideal S1x16384 .f32)
  (g : Vec Ideal S1x16384 .i32)

/-- A logit of the formula. -/
theorem pay1_at (v : Fin 50257) (j : Fin 16384) :
    k0_pay1 w x s q (ix2 v j) = (∑ k : Fin 1280, w (ix2 v k) * x (ix2 j k)) * (s (ix2 v 0) * q (ix2 0 j)) := by
  unfold k0_pay1
  simp only [pointwise, zero_add]
  rfl

/-- The formula's logsumexp of a row. -/
theorem pay2_at (j : Fin 16384) :
    k0_pay2 w x s q (ix2 0 j)
      = (Finset.univ.sup fun v : Fin 50257 => k0_pay1 w x s q (ix2 v j))
        + Ideal.log (∑ v : Fin 50257, Ideal.exp (k0_pay1 w x s q (ix2 v j) - Finset.univ.sup fun v : Fin 50257 => k0_pay1 w x s q (ix2 v j))) := by
  exact lse_at (k0_pay1 w x s q) j

/-- The formula's target logit of a row. -/
theorem pay3_at (j : Fin 16384) :
    k0_pay3 w x s q g (ix2 0 j)
      = ∑ v : Fin 50257, if BitVec.ofNat 32 v.val = g (ix2 0 j) then k0_pay1 w x s q (ix2 v j) else 0 := by
  unfold k0_pay3
  simp only [pointwise, Ideal.reduceAdd_def]
  refine Finset.sum_congr rfl fun v _ => ?_
  have e : List.foldl (fun n a => n * ![50257, 16384] a + ((ix2 v j : S50257x16384.Idx) a).val) 0 [(0 : Fin 2)] = v.val := by
    show 0 * 50257 + v.val = v.val
    omega
  rw [show (List.foldl _ 0 [(0 : Fin 2)] : ℕ) = v.val from e]
  show (if BitVec.ofBool (decide (BitVec.ofNat 32 v.val = g (ix2 0 j))) = 1#1 then _ else _) = _
  by_cases h : BitVec.ofNat 32 v.val = g (ix2 0 j)
  · rw [if_pos h]
    exact if_pos (by rw [decide_eq_true h]; rfl)
  · rw [if_neg h]
    exact if_neg (by rw [decide_eq_false h]; decide)

end Pay

/-! ## The results at the end -/

variable (m : (ℓ : Loc nD τ sig) → Buf (Elt Ideal) ℓ) (c : Dev nD)

/-- The vocabulary matrix as the region finds it. -/
def arrW : Vec Ideal S50257x1280 .fp8e4m3 := V m c main_arg1
/-- The vocabulary scales as the region finds them. -/
def arrS : Vec Ideal S50257x1 .f32 := V m c main_v4
/-- The contexts' codes as the region finds them. -/
def arrC : Vec Ideal S16384x1280 .fp8e4m3 := V m c main_v5
/-- The contexts' scales as the region finds them. -/
def arrX : Vec Ideal S1x16384 .f32 := V m c main_v7
/-- The targets as the region finds them. -/
def arrT : Vec Ideal S1x16384 .i32 := V m c main_v3

/-- The logit of vocabulary entry `v` for row `j`. -/
def logit (j : Fin 16384) (v : Fin 50257) : EReal :=
  (∑ k : Fin 1280, arrW m c (ix2 v k) * arrC m c (ix2 j k)) * (arrS m c (ix2 v 0) * arrX m c (ix2 0 j))

/-- The logsumexp of a row's logits. -/
def lseVal (j : Fin 16384) : EReal :=
  (Finset.univ.sup (logit m c j)) + Ideal.log (∑ v, Ideal.exp (logit m c j v - Finset.univ.sup (logit m c j)))

/-- The target's logit of a row. -/
def ztVal (j : Fin 16384) : EReal :=
  ∑ v : Fin 50257, if BitVec.ofNat 32 v.val = arrT m c (ix2 0 j) then logit m c j v else 0

theorem zero2 : (![0, 0] : Fin 2 → ℕ) = fun _ => 0 := by
  funext a; match a with | ⟨0, _⟩ => rfl | ⟨1, _⟩ => rfl

/-- The one block of an input is the whole array. -/
theorem blk0 (t : Fin cfg0.N) : (iblk m c 0 t : Vec Ideal S1x16384 .i32) = arrT m c := funext fun y => by
  refine congrArg (arrT m c) (funext fun a => Fin.ext ?_)
  match a with
  | ⟨0, _⟩ => show 0 * 1 + 1 * (y 0).val = (y 0).val; omega
  | ⟨1, _⟩ => show 0 * 16384 + 1 * (y 1).val = (y 1).val; omega
theorem blk1 (t : Fin cfg0.N) : (iblk m c 1 t : Vec Ideal S50257x1280 .fp8e4m3) = arrW m c := funext fun y => by
  refine congrArg (arrW m c) (funext fun a => Fin.ext ?_)
  match a with
  | ⟨0, _⟩ => show 0 * 50257 + 1 * (y 0).val = (y 0).val; omega
  | ⟨1, _⟩ => show 0 * 1280 + 1 * (y 1).val = (y 1).val; omega
theorem blk2 (t : Fin cfg0.N) : (iblk m c 2 t : Vec Ideal S50257x1 .f32) = arrS m c := funext fun y => by
  refine congrArg (arrS m c) (funext fun a => Fin.ext ?_)
  match a with
  | ⟨0, _⟩ => show 0 * 50257 + 1 * (y 0).val = (y 0).val; omega
  | ⟨1, _⟩ => show 0 * 1 + 1 * (y 1).val = (y 1).val; omega
theorem blk3 (t : Fin cfg0.N) : (iblk m c 3 t : Vec Ideal S16384x1280 .fp8e4m3) = arrC m c := funext fun y => by
  refine congrArg (arrC m c) (funext fun a => Fin.ext ?_)
  match a with
  | ⟨0, _⟩ => show 0 * 16384 + 1 * (y 0).val = (y 0).val; omega
  | ⟨1, _⟩ => show 0 * 1280 + 1 * (y 1).val = (y 1).val; omega
theorem blk4 (t : Fin cfg0.N) : (iblk m c 4 t : Vec Ideal S1x16384 .f32) = arrX m c := funext fun y => by
  refine congrArg (arrX m c) (funext fun a => Fin.ext ?_)
  match a with
  | ⟨0, _⟩ => show 0 * 1 + 1 * (y 0).val = (y 0).val; omega
  | ⟨1, _⟩ => show 0 * 16384 + 1 * (y 1).val = (y 1).val; omega

/-- What the body leaves in the first result's block. -/
theorem left5 (t : Fin cfg0.N) : ((dats m 0 c).after 5 t : Vec Ideal S1x16384 .f32) = k0_pay2 (arrW m c) (arrC m c) (arrS m c) (arrX m c) := by
  rw [after0_5]
  unfold out0_5
  rw [View.canon_unit_zero zero2, View.ld_unit_zero zero2, View.ld_unit_zero zero2, View.ld_unit_zero zero2, View.ld_unit_zero zero2,
    show iblk m c 1 t = arrW m c from blk1 m c t, show iblk m c 2 t = arrS m c from blk2 m c t, show iblk m c 3 t = arrC m c from blk3 m c t,
    show iblk m c 4 t = arrX m c from blk4 m c t]

/-- What the body leaves in the second result's block. -/
theorem left6 (t : Fin cfg0.N) : ((dats m 0 c).after 6 t : Vec Ideal S1x16384 .f32) = k0_pay3 (arrW m c) (arrC m c) (arrS m c) (arrX m c) (arrT m c) := by
  rw [after0_6]
  unfold out0_6
  rw [View.canon_unit_zero zero2, View.ld_unit_zero zero2, View.ld_unit_zero zero2, View.ld_unit_zero zero2, View.ld_unit_zero zero2, View.ld_unit_zero zero2,
    show iblk m c 0 t = arrT m c from blk0 m c t,
    show iblk m c 1 t = arrW m c from blk1 m c t, show iblk m c 2 t = arrS m c from blk2 m c t, show iblk m c 3 t = arrC m c from blk3 m c t,
    show iblk m c 4 t = arrX m c from blk4 m c t]

/-- An index of a result is its lane. -/
theorem idx_eq (i : S1x16384.Idx) : i = ix2 0 (i 1) := funext fun a => Fin.ext (by
  match a with
  | ⟨0, _⟩ => have : (i 0).val < 1 := (i 0).isLt; show (i 0).val = 0; omega
  | ⟨1, _⟩ => rfl)

/-- The first result at the end. -/
theorem final5 : ((dats m 0 c).arrAt 5 cfg0.N : Vec Ideal S1x16384 .f32) = fun i => lseVal m c (i 1) := funext fun i => by
  refine ((dats m 0 c).arrAt_emb_eq_after_last 5 ⟨0, by decide⟩ (by decide +kernel) i).trans ?_
  refine (congrFun (left5 m c ⟨0, by decide⟩) i).trans ?_
  refine (congrArg (k0_pay2 (arrW m c) (arrC m c) (arrS m c) (arrX m c)) (idx_eq i)).trans ?_
  have e : (fun v : Fin 50257 => k0_pay1 (arrW m c) (arrC m c) (arrS m c) (arrX m c) (ix2 v (i 1))) = logit m c (i 1) :=
    funext fun v => pay1_at (arrW m c) (arrC m c) (arrS m c) (arrX m c) v (i 1)
  exact (pay2_at (arrW m c) (arrC m c) (arrS m c) (arrX m c) (i 1)).trans
    (congrArg (fun f : Fin 50257 → EReal => Finset.univ.sup f + Ideal.log (∑ v, Ideal.exp (f v - Finset.univ.sup f))) e)

/-- The second result at the end. -/
theorem final6 : ((dats m 0 c).arrAt 6 cfg0.N : Vec Ideal S1x16384 .f32) = fun i => ztVal m c (i 1) := funext fun i => by
  refine ((dats m 0 c).arrAt_emb_eq_after_last 6 ⟨0, by decide⟩ (by decide +kernel) i).trans ?_
  refine (congrFun (left6 m c ⟨0, by decide⟩) i).trans ?_
  refine (congrArg (k0_pay3 (arrW m c) (arrC m c) (arrS m c) (arrX m c) (arrT m c)) (idx_eq i)).trans ?_
  have e : (fun v : Fin 50257 => k0_pay1 (arrW m c) (arrC m c) (arrS m c) (arrX m c) (ix2 v (i 1))) = logit m c (i 1) :=
    funext fun v => pay1_at (arrW m c) (arrC m c) (arrS m c) (arrX m c) v (i 1)
  exact (pay3_at (arrW m c) (arrC m c) (arrS m c) (arrX m c) (arrT m c) (i 1)).trans
    (congrArg (fun f : Fin 50257 → EReal => ∑ v : Fin 50257, if BitVec.ofNat 32 v.val = arrT m c (ix2 0 (i 1)) then f v else 0) e)

end Cert.ReferenceIdeal.Hand

end

end
-- ==== Proof.Args.lean ====
/- The arrays both regions find, as functions of the arguments; they agree where the arguments do. -/
module

public import proofs.«01_k».proof.Proof.KTile
public import proofs.«01_k».proof.Proof.RValue
public import proofs.«01_k».proof.Proof.Gen.KernelIdeal.Frame
public import Idealize.ShloMosaic.Lib.StableHlo.Run

@[expose] public section

set_option maxRecDepth 16384

noncomputable section

open Idealize.ShloMosaic Idealize.ShloMosaic.TcCoe Idealize.SL.Sem

namespace Cert.KernelIdeal.Hand

open Cert.KernelIdeal Cert.KernelIdeal.Gen Cert.KernelIdeal.Facts

variable (m : (ℓ : Loc nD τ sig) → Buf (Elt Ideal) ℓ) (c : Dev nD)

/-- The contexts' scales, transposed and laid in one row. -/
theorem arrX_eq : arrX m c = shapeCast S1x16384 (transpose S4x4096 [1, 0] (m ((c : Thread nD τ).loc main_arg4)) transposes_S4096x4_S4x4096_1_0) shapeCasts_S4x4096_S1x16384 := by
  show StableHlo.after hostOps0 _ (Proc.devRef .tc main_v1) = _
  after_results
  all_goals rfl

/-- The targets in one row, once for every context. -/
theorem arrT_eq : arrT m c = shapeCast S1x16384 (broadcastInDim S1x1x4x4096 ![0, 1, 2, 3] bcast_S1x1x1x4096_S1x1x4x4096_0_1_2_3
    (shapeCast S1x1x1x4096 (shapeCast S1x4096 (m ((c : Thread nD τ).loc main_arg0)) shapeCasts_S2x2048_S1x4096) shapeCasts_S1x4096_S1x1x1x4096))
    shapeCasts_S1x1x4x4096_S1x16384 := by
  show StableHlo.after hostOps0 _ (Proc.devRef .tc main_v5) = _
  after_results
  all_goals rfl

/-- The vocabulary scales in one column. -/
theorem arrS_eq : arrS m c = shapeCast S50257x1 (m ((c : Thread nD τ).loc main_arg2)) shapeCasts_S50257_S50257x1 := by
  show StableHlo.after hostOps0 _ (Proc.devRef .tc main_v8) = _
  after_results
  all_goals rfl

/-- The contexts' codes, a row for every context. -/
theorem arrC_eq : arrC m c = shapeCast S16384x1280 (m ((c : Thread nD τ).loc main_arg3)) shapeCasts_S4x4096x1280_S16384x1280 := by
  show StableHlo.after hostOps0 _ (Proc.devRef .tc main_v9) = _
  after_results
  all_goals rfl

/-- The vocabulary matrix with three rows after it. -/
theorem arrW_eq : arrW m c = concatenate S50260x1280 0 [⟨S50257x1280, m ((c : Thread nD τ).loc main_arg1)⟩,
    ⟨S3x1280, extractStridedSlice S3x1280 ![0, 0] (m ((c : Thread nD τ).loc main_arg1)) slices_S50257x1280_S3x1280_0_0⟩]
    concatenates_S50257x1280_S3x1280_S50260x1280_d0 := by
  show StableHlo.after hostOps0 _ (Proc.devRef .tc main_v7) = _
  after_results
  all_goals rfl

/-- A row before the added ones is the first matrix's. -/
theorem concat_at (X : Vec Ideal S50257x1280 .fp8e4m3) (Y : Vec Ideal S3x1280 .fp8e4m3) (v : Fin 50257) (k : Fin 1280) :
    concatenate S50260x1280 0 [⟨S50257x1280, X⟩, ⟨S3x1280, Y⟩] concatenates_S50257x1280_S3x1280_S50260x1280_d0 (ix2 (v.castLE (by norm_num)) k)
      = X (ix2 v k) := by
  refine concatenate_pair_apply_left (s₁ := S50257x1280) (s₂ := S3x1280) (t := S50260x1280) 0 X Y _ _ rfl (ix2 v k) fun b => ?_
  match b with | ⟨0, _⟩ => rfl | ⟨1, _⟩ => rfl

/-- A row of the vocabulary is the argument's. -/
theorem arrW_at (v : Fin 50257) (k : Fin 1280) :
    arrW m c (ix2 (v.castLE (by norm_num)) k) = (m ((c : Thread nD τ).loc main_arg1) : Vec Ideal S50257x1280 .fp8e4m3) (ix2 v k) := by
  rw [arrW_eq]
  exact concat_at (m ((c : Thread nD τ).loc main_arg1)) _ v k

/-- Where every target of the argument is below the vocabulary's size, so is every target of the row. -/
theorem targets_lt (h : ∀ i, ((m ((c : Thread nD τ).loc main_arg0) : Vec Ideal S2x2048 .i32) i).toInt < 50257) (i : S1x16384.Idx) :
    (arrT m c i).toInt < 50257 := by
  rw [arrT_eq]
  exact h _

end Cert.KernelIdeal.Hand

namespace Cert.ReferenceIdeal.Hand

open Cert.ReferenceIdeal Cert.ReferenceIdeal.Gen Cert.ReferenceIdeal.Facts

variable (m : (ℓ : Loc nD τ sig) → Buf (Elt Ideal) ℓ) (c : Dev nD)

/-- The contexts' scales, transposed and laid in one row. -/
theorem arrX_eq : arrX m c = shapeCast S1x16384 (transpose S4x4096 [1, 0] (m ((c : Thread nD τ).loc main_arg4)) transposes_S4096x4_S4x4096_1_0) shapeCasts_S4x4096_S1x16384 := by
  show StableHlo.after hostOps0 _ (Proc.devRef .tc main_v7) = _
  after_results
  all_goals rfl

/-- The targets in one row, once for every context. -/
theorem arrT_eq : arrT m c = shapeCast S1x16384 (broadcastInDim S1x1x4x4096 ![0, 1, 2, 3] bcast_S1x1x1x4096_S1x1x4x4096_0_1_2_3
    (shapeCast S1x1x1x4096 (shapeCast S1x4096 (m ((c : Thread nD τ).loc main_arg0)) shapeCasts_S2x2048_S1x4096) shapeCasts_S1x4096_S1x1x1x4096))
    shapeCasts_S1x1x4x4096_S1x16384 := by
  show StableHlo.after hostOps0 _ (Proc.devRef .tc main_v3) = _
  after_results
  all_goals rfl

/-- The vocabulary scales in one column. -/
theorem arrS_eq : arrS m c = shapeCast S50257x1 (m ((c : Thread nD τ).loc main_arg2)) shapeCasts_S50257_S50257x1 := by
  show StableHlo.after hostOps0 _ (Proc.devRef .tc main_v4) = _
  after_results
  all_goals rfl

/-- The contexts' codes, a row for every context. -/
theorem arrC_eq : arrC m c = shapeCast S16384x1280 (m ((c : Thread nD τ).loc main_arg3)) shapeCasts_S4x4096x1280_S16384x1280 := by
  show StableHlo.after hostOps0 _ (Proc.devRef .tc main_v5) = _
  after_results
  all_goals rfl

/-- The vocabulary matrix is the argument. -/
theorem arrW_eq : arrW m c = m ((c : Thread nD τ).loc main_arg1) := V_main_arg1 m c

end Cert.ReferenceIdeal.Hand

end

end
-- ==== Proof.LossValue.lean ====
/- The value of the `loss` call and of its formula. -/
module

public import proofs.«01_k».proof.Proof.Gen.LossKernel.Frame
public import proofs.«01_k».proof.Proof.Gen.LossKernelIdeal.Frame
public import proofs.«01_k».proof.Proof.Gen.LossReferenceIdeal.Run
public import Idealize.ShloMosaic.PureOps.Ideal.Laws
public import Idealize.ShloMosaic.Lib.Pipeline.Value
public import Idealize.ShloMosaic.Lib.Pipeline.ValueKit.Geometry
public import Idealize.ShloMosaic.Lib.Pointwise
public import Idealize.ShloMosaic.Lib.ValueLayoutCasts
public import Idealize.ShloMosaic.Lib.StableHlo.Run

@[expose] public section

set_option maxRecDepth 16384

noncomputable section

open scoped BigOperators
open Idealize.ShloMosaic Idealize.ShloMosaic.TcCoe Idealize.SL.Sem

namespace Cert.Loss

/-- The logarithm of the vocabulary's size, as both programs round it. -/
def logV : EReal := Ideal.ofBits FTy.f32 0x412D32D0#32

/-- The loss of a token from its four mixture terms: less their logsumexp, less the logarithm of the vocabulary's size. -/
def lossOf (a : Fin 4 → EReal) : EReal :=
  -(Finset.univ.sup a + Ideal.log (∑ k, Ideal.exp (a k - Finset.univ.sup a))) - logV

/-- The word of -∞ is -∞. -/
theorem ofBits_negInf : Ideal.ofBits FTy.f32 4286578688#32 = ⊥ := by simp [Ideal.ofBits, Ideal.ieee]

/-- The word of 0 is 0. -/
theorem ofBits_zero : Ideal.ofBits FTy.f32 0#32 = 0 := by simp [Ideal.ofBits, Ideal.ieee]

/-- A maximum folded from -∞ is the supremum. -/
theorem fold_max_eq_sup {ι : Type*} (A : Finset ι) (f : ι → EReal) : A.fold max ⊥ f = A.sup f := rfl

end Cert.Loss

namespace Cert.LossKernelIdeal.Hand

open Cert.LossKernelIdeal Cert.LossKernelIdeal.Gen Cert.LossKernelIdeal.Facts Cert.Loss
open Idealize.ShloMosaic.Pipeline (Dat)

/-- The kernel's loss of a token. -/
theorem pay2_at (x0 x2 x1 : Vec Ideal S4x4096 .f32) (t : Fin 4096) :
    k0_pay2 x0 x2 x1 (ix2 0 t) = lossOf fun k => (x2 (ix2 k t) + x1 (ix2 k t)) - x0 (ix2 k t) := by
  unfold k0_pay2 k0_pay1
  simp only [pointwise, Ideal.reduceAdd_def]
  rw [zero_sub]
  simp only [ofBits_negInf, fold_max_eq_sup]
  rfl

/-- The kernel's relative logsumexp of a token and a context. -/
theorem pay3_at (x0 : Vec Ideal S4x4096 .f32) (k : Fin 4) (t : Fin 4096) : k0_pay3 x0 (ix2 k t) = x0 (ix2 k t) - logV := by
  unfold k0_pay3 k0_pay1
  simp only [pointwise]
  rfl

/-! ## The results at the end -/

variable (m : (ℓ : Loc nD τ sig) → Buf (Elt Ideal) ℓ) (c : Dev nD)

/-- The logsumexps, a row of tokens for every context, as the region finds them, -/
theorem V_v0 : (V m c main_v0 : Vec Ideal S4x4096 .f32) = shapeCast S4x4096 (m ((c : Thread nD τ).loc main_arg0)) shapeCasts_S1x16384_S4x4096 := by
  show StableHlo.after hostOps0 _ (Proc.devRef .tc main_v0) = _
  after_results
  all_goals rfl
/-- the targets' logits, -/
theorem V_v1 : (V m c main_v1 : Vec Ideal S4x4096 .f32) = shapeCast S4x4096 (m ((c : Thread nD τ).loc main_arg1)) shapeCasts_S1x16384_S4x4096 := by
  show StableHlo.after hostOps0 _ (Proc.devRef .tc main_v1) = _
  after_results
  all_goals rfl
/-- and the logarithms of the mixture's weights. -/
theorem V_v2 : (V m c main_v2 : Vec Ideal S4x4096 .f32) = transpose S4x4096 [1, 0] (m ((c : Thread nD τ).loc main_arg2)) transposes_S4096x4_S4x4096_1_0 := by
  show StableHlo.after hostOps0 _ (Proc.devRef .tc main_v2) = _
  after_results
  all_goals rfl

theorem zero2 : (![0, 0] : Fin 2 → ℕ) = fun _ => 0 := by
  funext a; match a with | ⟨0, _⟩ => rfl | ⟨1, _⟩ => rfl

/-- The one block of an input is the whole array. -/
theorem blk0 (t : Fin cfg0.N) : (iblk m c 0 t : Vec Ideal S4x4096 .f32) = V m c main_v0 := funext fun y => by
  refine congrArg (V m c main_v0 : Vec Ideal S4x4096 .f32) (funext fun a => Fin.ext ?_)
  match a with
  | ⟨0, _⟩ => show 0 * 4 + 1 * (y 0).val = (y 0).val; omega
  | ⟨1, _⟩ => show 0 * 4096 + 1 * (y 1).val = (y 1).val; omega
theorem blk1 (t : Fin cfg0.N) : (iblk m c 1 t : Vec Ideal S4x4096 .f32) = V m c main_v1 := funext fun y => by
  refine congrArg (V m c main_v1 : Vec Ideal S4x4096 .f32) (funext fun a => Fin.ext ?_)
  match a with
  | ⟨0, _⟩ => show 0 * 4 + 1 * (y 0).val = (y 0).val; omega
  | ⟨1, _⟩ => show 0 * 4096 + 1 * (y 1).val = (y 1).val; omega
theorem blk2 (t : Fin cfg0.N) : (iblk m c 2 t : Vec Ideal S4x4096 .f32) = V m c main_v2 := funext fun y => by
  refine congrArg (V m c main_v2 : Vec Ideal S4x4096 .f32) (funext fun a => Fin.ext ?_)
  match a with
  | ⟨0, _⟩ => show 0 * 4 + 1 * (y 0).val = (y 0).val; omega
  | ⟨1, _⟩ => show 0 * 4096 + 1 * (y 1).val = (y 1).val; omega

/-- What the body leaves in the losses' block. -/
theorem left3 (t : Fin cfg0.N) : ((dats m 0 c).after 3 t : Vec Ideal S1x4096 .f32) = k0_pay2 (V m c main_v0 : Vec Ideal S4x4096 .f32) (V m c main_v2 : Vec Ideal S4x4096 .f32) (V m c main_v1 : Vec Ideal S4x4096 .f32) := by
  rw [after0_3]
  unfold out0_3
  rw [View.canon_unit_zero zero2, View.ld_unit_zero zero2, View.ld_unit_zero zero2, View.ld_unit_zero zero2]
  rw [show iblk m c 0 t = V m c main_v0 from blk0 m c t, show iblk m c 1 t = V m c main_v1 from blk1 m c t,
    show iblk m c 2 t = V m c main_v2 from blk2 m c t]

/-- What the body leaves in the relative logsumexps' block. -/
theorem left4 (t : Fin cfg0.N) : ((dats m 0 c).after 4 t : Vec Ideal S4x4096 .f32) = k0_pay3 (V m c main_v0 : Vec Ideal S4x4096 .f32) := by
  rw [after0_4]
  unfold out0_4
  rw [View.canon_unit_zero zero2, View.ld_unit_zero zero2]
  rw [show iblk m c 0 t = V m c main_v0 from blk0 m c t]

/-- The losses' array at the end of the region, -/
theorem final3 : ((dats m 0 c).arrAt 3 cfg0.N : Vec Ideal S1x4096 .f32) = k0_pay2 (V m c main_v0 : Vec Ideal S4x4096 .f32) (V m c main_v2 : Vec Ideal S4x4096 .f32) (V m c main_v1 : Vec Ideal S4x4096 .f32) := funext fun i =>
  ((dats m 0 c).arrAt_emb_eq_after_last 3 ⟨0, by decide⟩ (by decide +kernel) i).trans (congrFun (left3 m c ⟨0, by decide⟩) i)
/-- and the relative logsumexps'. -/
theorem final4 : ((dats m 0 c).arrAt 4 cfg0.N : Vec Ideal S4x4096 .f32) = k0_pay3 (V m c main_v0 : Vec Ideal S4x4096 .f32) := funext fun i =>
  ((dats m 0 c).arrAt_emb_eq_after_last 4 ⟨0, by decide⟩ (by decide +kernel) i).trans (congrFun (left4 m c ⟨0, by decide⟩) i)

/-- The loss of a token, of the three arrays of arguments. -/
def lossVal (L Z : Vec Ideal S1x16384 .f32) (P : Vec Ideal S4096x4 .f32) (t : Fin 4096) : EReal := lossOf fun k =>
  (P (ix2 t k) + shapeCast S4x4096 Z shapeCasts_S1x16384_S4x4096 (ix2 k t)) - shapeCast S4x4096 L shapeCasts_S1x16384_S4x4096 (ix2 k t)

/-- The losses, of the arguments. -/
theorem final3_at (t : Fin 4096) : ((dats m 0 c).arrAt 3 cfg0.N : Vec Ideal S1x4096 .f32) (ix2 0 t)
    = lossVal (m ((c : Thread nD τ).loc main_arg0)) (m ((c : Thread nD τ).loc main_arg1)) (m ((c : Thread nD τ).loc main_arg2)) t := by
  rw [final3, pay2_at, V_v0, V_v1, V_v2]
  unfold lossVal
  refine congrArg lossOf (funext fun k => ?_)
  simp only [pointwise]

/-- The losses after the tail, -/
theorem tail_v4 : Pipeline.afterTail₀ cfgs (dats m) 0 (V0 m) [hostOps1] c main_v4
    = shapeCast S2x2048 ((dats m 0 c).arrAt 3 cfg0.N : Vec Ideal S1x4096 .f32) shapeCasts_S1x4096_S2x2048 := by
  unfold Pipeline.afterTail₀
  show StableHlo.after hostOps1 _ (Proc.devRef .tc main_v4) = _
  after_results
  exact congrArg (fun a : Vec Ideal S1x4096 .f32 => shapeCast S2x2048 a shapeCasts_S1x4096_S2x2048)
    (Pipeline.withArrays_arr spec0 launch0.win.arr_inj c (V0 m c) (fun w => (dats m 0 c).arrAt w cfg0.N) 3)
/-- and the relative logsumexps. -/
theorem tail_v6 : Pipeline.afterTail₀ cfgs (dats m) 0 (V0 m) [hostOps1] c main_v6
    = shapeCast S2x2048x4 (transpose S4096x4 [1, 0] ((dats m 0 c).arrAt 4 cfg0.N : Vec Ideal S4x4096 .f32) transposes_S4x4096_S4096x4_1_0) shapeCasts_S4096x4_S2x2048x4 := by
  unfold Pipeline.afterTail₀
  show StableHlo.after hostOps1 _ (Proc.devRef .tc main_v6) = _
  after_results
  exact congrArg (fun a : Vec Ideal S4x4096 .f32 => shapeCast S2x2048x4 (transpose S4096x4 [1, 0] a transposes_S4x4096_S4096x4_1_0) shapeCasts_S4096x4_S2x2048x4)
    (Pipeline.withArrays_arr spec0 launch0.win.arr_inj c (V0 m c) (fun w => (dats m 0 c).arrAt w cfg0.N) 4)

/-- The run of the call with the host lines around it. -/
theorem run_value (ρ : Dev nD → PrngReg) :
    θ_run defs (onTc (τ := τ) (main (F := Ideal))) ⟨m, fun _ => 0, ρ⟩ fun r => ∀ c : Dev nD,
      r.2.mem ((c.tc : Thread nD τ).loc main_v4) = shapeCast S2x2048 ((dats m 0 c).arrAt 3 cfg0.N : Vec Ideal S1x4096 .f32) shapeCasts_S1x4096_S2x2048
      ∧ r.2.mem ((c.tc : Thread nD τ).loc main_v6) = shapeCast S2x2048x4 (transpose S4096x4 [1, 0] ((dats m 0 c).arrAt 4 cfg0.N : Vec Ideal S4x4096 .f32) transposes_S4x4096_S4096x4_1_0) shapeCasts_S4096x4_S2x2048x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
      ((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.LossKernelIdeal.Hand

namespace Cert.LossReferenceIdeal.Hand

open Cert.LossReferenceIdeal Cert.LossReferenceIdeal.Gen Cert.LossReferenceIdeal.Facts Cert.Loss

variable (L Z : Vec Ideal S1x16384 .f32) (P : Vec Ideal S4096x4 .f32)

/-- A maximum over the contexts. -/
theorem max_at (z : FVec Ideal S4096x4 .f32) (t : Fin 4096) :
    Host.reduce FloatOps.maximumf z (constant S_ .f32 0xFF800000#32) reducesTo_S4096x4_S4096_d1 h_S_ (ix1 t) = Finset.univ.sup fun k : Fin 4 => z (ix2 t k) := by
  simp only [pointwise]
  rw [ofBits_negInf, fold_max_eq_sup]

/-- A sum over the contexts. -/
theorem sum_at (z : FVec Ideal S4096x4 .f32) (t : Fin 4096) :
    Host.reduceAdd z (constant S_ .f32 0x00000000#32) reducesTo_S4096x4_S4096_d1 h_S_ (ix1 t) = ∑ k : Fin 4, z (ix2 t k) := by
  simp only [pointwise]
  rw [zero_add]

/-- The formula's loss, a column of tokens, before its last reshape. -/
def lossCol (z : FVec Ideal S4096x4 .f32) : FVec Ideal S4096 .f32 :=
  subf (Host.negf (shapeCast S4096 (addf (broadcastInDim S4096x1 ![0] bcast_S4096_S4096x1_0 (Host.reduce FloatOps.maximumf z (constant S_ .f32 0xFF800000#32) reducesTo_S4096x4_S4096_d1 h_S_))
    (Host.log (broadcastInDim S4096x1 ![0] bcast_S4096_S4096x1_0 (Host.reduceAdd (Host.exp (subf z (broadcastInDim S4096x4 ![0, 1] bcast_S4096x1_S4096x4_0_1
      (broadcastInDim S4096x1 ![0] bcast_S4096_S4096x1_0 (Host.reduce FloatOps.maximumf z (constant S_ .f32 0xFF800000#32) reducesTo_S4096x4_S4096_d1 h_S_)))))
      (constant S_ .f32 0x00000000#32) reducesTo_S4096x4_S4096_d1 h_S_)))) shapeCasts_S4096x1_S4096)) (broadcastInDim S4096 ![] bcast_S_S4096 (constant S_ .f32 0x412D32D0#32))

/-- The formula's loss of a token. -/
theorem lossCol_at (z : FVec Ideal S4096x4 .f32) (t : Fin 4096) : lossCol z (ix1 t) = lossOf fun k => z (ix2 t k) := by
  unfold lossCol
  simp only [pointwise]
  rw [zero_add]
  simp only [ofBits_negInf, fold_max_eq_sup]
  rfl

/-- The mixture terms, a row of four for every token. -/
def terms : FVec Ideal S4096x4 .f32 :=
  subf (addf P (transpose S4096x4 [1, 0] (shapeCast S4x4096 Z shapeCasts_S1x16384_S4x4096) transposes_S4x4096_S4096x4_1_0))
    (transpose S4096x4 [1, 0] (shapeCast S4x4096 L shapeCasts_S1x16384_S4x4096) transposes_S4x4096_S4096x4_1_0)

theorem terms_at (t : Fin 4096) (k : Fin 4) : terms L Z P (ix2 t k)
    = (P (ix2 t k) + shapeCast S4x4096 Z shapeCasts_S1x16384_S4x4096 (ix2 k t)) - shapeCast S4x4096 L shapeCasts_S1x16384_S4x4096 (ix2 k t) := by
  unfold terms
  simp only [pointwise]

/-- The formula's relative logsumexps, before their last reshape. -/
def relCol : FVec Ideal S4096x4 .f32 :=
  subf (transpose S4096x4 [1, 0] (shapeCast S4x4096 L shapeCasts_S1x16384_S4x4096) transposes_S4x4096_S4096x4_1_0) (broadcastInDim S4096x4 ![] bcast_S_S4096x4 (constant S_ .f32 0x412D32D0#32))

theorem relCol_at (t : Fin 4096) (k : Fin 4) : relCol L (ix2 t k) = shapeCast S4x4096 L shapeCasts_S1x16384_S4x4096 (ix2 k t) - logV := by
  unfold relCol
  simp only [pointwise]
  rfl

/-- The formula's run: its results are those terms. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = shapeCast S2x2048 (lossCol (terms (m ((c.tc : Thread nD τ).loc main_arg0)) (m ((c.tc : Thread nD τ).loc main_arg1)) (m ((c.tc : Thread nD τ).loc main_arg2)))) shapeCasts_S4096_S2x2048
      ∧ r.2.mem ((c.tc : Thread nD τ).loc main_v22) = shapeCast S2x2048x4 (relCol (m ((c.tc : Thread nD τ).loc main_arg0))) shapeCasts_S4096x4_S2x2048x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.LossReferenceIdeal.Value.run m ρ

end Cert.LossReferenceIdeal.Hand

end

end
-- ==== Proof.LossSame.lean ====
/- The loss call and its formula: the two programs' results are equal. -/
module

public import proofs.«01_k».proof.Defs
public import proofs.«01_k».proof.Proof.LossValue
public import Idealize.ShloMosaic.Adequacy
public import Idealize.ShloMosaic.Init

@[expose] public section

noncomputable section

namespace Cert.Loss

open Idealize.ShloMosaic Idealize.ShloMosaic.TcCoe Idealize.SL.Sem Cert.LossKernelIdeal Cert.LossKernelIdeal.Gen Cert.LossKernelIdeal.Facts

/-- A position of two coordinates is the pair of them, -/
theorem idx2 {a b : ℕ} (i : (⟨2, ![a, b]⟩ : Shape).Idx) : i = ix2 (i 0) (i 1) :=
  funext fun x => match x with | ⟨0, _⟩ => rfl | ⟨1, _⟩ => rfl

variable (m : (ℓ : Loc nD τ sig) → Buf (Elt Ideal) ℓ) (c : Dev nD)

/-- The losses of the kernel are the formula's. -/
theorem loss_same : (shapeCast S2x2048 ((dats m 0 c).arrAt 3 cfg0.N : Vec Ideal S1x4096 .f32) shapeCasts_S1x4096_S2x2048 : Vec Ideal S2x2048 .f32)
    = shapeCast Cert.LossReferenceIdeal.S2x2048 (Cert.LossReferenceIdeal.Hand.lossCol (Cert.LossReferenceIdeal.Hand.terms (m ((c.tc : Thread nD τ).loc main_arg0))
        (m ((c.tc : Thread nD τ).loc main_arg1)) (m ((c.tc : Thread nD τ).loc main_arg2)))) Cert.LossReferenceIdeal.Gen.shapeCasts_S4096_S2x2048 := by
  have e := Cert.LossKernelIdeal.Hand.final3_at m c
  generalize ((dats m 0 c).arrAt 3 cfg0.N : Vec Ideal S1x4096 .f32) = A at e ⊢
  funext i
  obtain ⟨b, s, rfl⟩ : ∃ (b : Fin 2) (s : Fin 2048), i = ix2 b s := ⟨i 0, i 1, idx2 i⟩
  simp only [pointwise]
  rw [Cert.LossReferenceIdeal.Hand.lossCol_at]
  simp only [Cert.LossReferenceIdeal.Hand.terms_at]
  exact e _

/-- The relative logsumexps of the kernel are the formula's. -/
theorem rel_same : (shapeCast S2x2048x4 (transpose S4096x4 [1, 0] ((dats m 0 c).arrAt 4 cfg0.N : Vec Ideal S4x4096 .f32) transposes_S4x4096_S4096x4_1_0) shapeCasts_S4096x4_S2x2048x4 : Vec Ideal S2x2048x4 .f32)
    = shapeCast Cert.LossReferenceIdeal.S2x2048x4 (Cert.LossReferenceIdeal.Hand.relCol (m ((c.tc : Thread nD τ).loc main_arg0))) Cert.LossReferenceIdeal.Gen.shapeCasts_S4096x4_S2x2048x4 := by
  refine congrArg (fun a : Vec Ideal S4096x4 .f32 => (shapeCast S2x2048x4 a shapeCasts_S4096x4_S2x2048x4 : Vec Ideal S2x2048x4 .f32)) ?_
  funext i
  obtain ⟨t, k, rfl⟩ : ∃ (t : Fin 4096) (k : Fin 4), i = ix2 t k := ⟨i 0, i 1, idx2 i⟩
  rw [Cert.LossReferenceIdeal.Hand.relCol_at]
  simp only [pointwise]
  rw [Cert.LossKernelIdeal.Hand.final4, Cert.LossKernelIdeal.Hand.pay3_at, Cert.LossKernelIdeal.Hand.V_v0]
  simp only [pointwise]

/-- The claim on values of the loss call. -/
theorem algebraic : Cert.algebraic_LossKernelIdeal_LossReferenceIdeal (hLossKernelIdeal := Cert.LossKernelIdeal.Gen.facts) (hLossReferenceIdeal := Cert.LossReferenceIdeal.Gen.facts) := by
  intro m ρ m' ρ' _ hagree
  refine ⟨_, _, Cert.LossKernelIdeal.Hand.run_value m ρ, ?_⟩
  refine (θ_run Cert.LossReferenceIdeal.defs _ _).mono (fun _ h c => ?_) (Cert.LossReferenceIdeal.Hand.run_value m' ρ')
  refine ⟨(h c).1.trans ?_, (h c).2.1.trans ?_, (h c).2.2⟩
  · rw [(hagree c).1, (hagree c).2.1, (hagree c).2.2]
    exact (loss_same m c).symm
  · rw [(hagree c).1]
    exact (rel_same m c).symm

/-- The formula's program leaves its arguments, and declares no semaphore. -/
theorem frame_formula : Cert.quiescent_LossReferenceIdeal (hLossReferenceIdeal := Cert.LossReferenceIdeal.Gen.facts) := fun m ρ _ =>
  (θ_run Cert.LossReferenceIdeal.defs _ _).mono (fun r h => ⟨fun c => (h c).2.2, Idealize.ShloMosaic.sem_eq_zero_of_no_sems (by decide) r.2⟩)
    (Cert.LossReferenceIdeal.Hand.run_value m ρ)

end Cert.Loss

end

end
-- ==== Proof.CtxPow.lean ====
module

public import Idealize.ShloMosaic.PureOps.Ideal.Laws
public import Idealize.ShloMosaic.Lib.Pipeline.Value

/-! Powers of two as a kernel spells them: the exponent field of a positive number, found by a
binary search over the patterns of the powers of two, is the floor of its logarithm. -/

@[expose] public section

open Idealize.ShloMosaic

namespace Cert.Ctx

/-- The number of the pattern with exponent field `n` and nothing else. -/
noncomputable def T (n : ℕ) : EReal := Ideal.ofBits .f32 (BitVec.ofNat 32 n <<< 23)

/-- The three fields of the pattern. -/
theorem T_fields : ∀ n < 255, (BitVec.ofNat 32 n <<< 23).extractLsb' 31 1 = 0#1 ∧
    ((BitVec.ofNat 32 n <<< 23).extractLsb' 23 8).toNat = n ∧
    ((BitVec.ofNat 32 n <<< 23).extractLsb' 0 23).toNat = 0 := by decide +kernel

/-- Between 1 and 254 the field `n` reads as `2 ^ (n - 127)`. -/
theorem T_pow {n : ℕ} (h1 : 1 ≤ n) (h2 : n ≤ 254) : T n = (((2 : ℝ) ^ ((n : ℤ) - 127) : ℝ) : EReal) := by
  obtain ⟨hs, he, hf⟩ := T_fields n (by omega)
  have hb : ∀ b : BitVec 32, b.extractLsb' 31 1 = 0#1 → (b.extractLsb' 23 8).toNat = n →
      (b.extractLsb' 0 23).toNat = 0 → Ideal.ofBits .f32 b = (((2 : ℝ) ^ ((n : ℤ) - 127) : ℝ) : EReal) := by
    intro b hs he hf
    have e255 : ¬ n = 2 ^ 8 - 1 := by omega
    have e0 : ¬ n = 0 := by omega
    simp only [Ideal.ofBits, Ideal.ieee, Nat.reduceAdd, hs, he, hf, if_neg e255, if_neg e0]
    have hz : ((n : ℤ) - 127) = 23 + ((n : ℤ) - (2 ^ (8 - 1) - 1) - (23 : ℕ)) := by norm_num
    rw [hz, zpow_add₀ (by norm_num : (2 : ℝ) ≠ 0)]
    norm_num
  exact hb _ hs he hf

/-- The field of all ones reads as infinity. -/
theorem T_top : T 255 = ⊤ := by
  simp [T, Ideal.ofBits, Ideal.ieee]

/-- One step of the search: try the field raised by `k`. -/
noncomputable def step (y : EReal) (k n : BitVec 32) : BitVec 32 :=
  if Ideal.ofBits .f32 ((n + k) <<< 23) ≤ y then n + k else n

/-- The search for the exponent field of `y`: eight steps from 128 down to 1. -/
noncomputable def search (y : EReal) : BitVec 32 :=
  step y 1#32 (step y 2#32 (step y 4#32 (step y 8#32 (step y 16#32 (step y 32#32 (step y 64#32
    (step y 128#32 0#32)))))))

/-- What is known of the search when the field lies in the `w` values from `n` on. -/
def Inv (y : ℝ) (w n : ℕ) : Prop :=
  (n = 0 ∨ (2 : ℝ) ^ ((n : ℤ) - 127) ≤ y) ∧ y < (2 : ℝ) ^ ((n : ℤ) + w - 127) ∧ n + w ≤ 256

/-- One step halves the window. -/
theorem step_inv {y : ℝ} (hy : y < (2 : ℝ) ^ (126 : ℤ)) {k n : ℕ} (hk : 1 ≤ k) (h : Inv y (2 * k) n) :
    ∃ m : ℕ, step (y : EReal) (BitVec.ofNat 32 k) (BitVec.ofNat 32 n) = BitVec.ofNat 32 m ∧ Inv y k m := by
  obtain ⟨hl, hu, hw⟩ := h
  have ht : Ideal.ofBits .f32 ((BitVec.ofNat 32 n + BitVec.ofNat 32 k) <<< 23) = T (n + k) := by
    rw [T, BitVec.ofNat_add]
  unfold step
  rw [ht]
  rcases Nat.lt_or_ge (n + k) 255 with h255 | h255
  · simp only [T_pow (show 1 ≤ n + k by omega) (show n + k ≤ 254 by omega), EReal.coe_le_coe_iff]
    by_cases hc : (2 : ℝ) ^ (((n + k : ℕ) : ℤ) - 127) ≤ y
    · rw [if_pos hc]
      refine ⟨n + k, by rw [BitVec.ofNat_add], .inr hc, ?_, by omega⟩
      convert hu using 2
      push_cast; ring
    · rw [if_neg hc]
      refine ⟨n, rfl, hl, ?_, by omega⟩
      rw [not_le] at hc
      push_cast at hc
      exact hc
  · have hn : n + k = 255 := by omega
    rw [hn, T_top, if_neg (by simp)]
    refine ⟨n, rfl, hl, lt_trans hy ?_, by omega⟩
    refine zpow_lt_zpow_right₀ (by norm_num) ?_
    omega

/-- The search finds the binade of a number below `2 ^ 126`. -/
theorem search_inv {y : ℝ} (hy : y < (2 : ℝ) ^ (126 : ℤ)) :
    ∃ n : ℕ, search (y : EReal) = BitVec.ofNat 32 n ∧ Inv y 1 n := by
  have h0 : Inv y 256 0 := ⟨.inl rfl, lt_trans hy (zpow_lt_zpow_right₀ (by norm_num) (by norm_num)), le_rfl⟩
  obtain ⟨n1, e1, h1⟩ := step_inv hy (k := 128) (by norm_num) h0
  obtain ⟨n2, e2, h2⟩ := step_inv hy (k := 64) (by norm_num) h1
  obtain ⟨n3, e3, h3⟩ := step_inv hy (k := 32) (by norm_num) h2
  obtain ⟨n4, e4, h4⟩ := step_inv hy (k := 16) (by norm_num) h3
  obtain ⟨n5, e5, h5⟩ := step_inv hy (k := 8) (by norm_num) h4
  obtain ⟨n6, e6, h6⟩ := step_inv hy (k := 4) (by norm_num) h5
  obtain ⟨n7, e7, h7⟩ := step_inv hy (k := 2) (by norm_num) h6
  obtain ⟨n8, e8, h8⟩ := step_inv hy (k := 1) (by norm_num) h7
  exact ⟨n8, by unfold search; rw [e1, e2, e3, e4, e5, e6, e7, e8], h8⟩

/-- The constant 1/448, rounded to f32. -/
noncomputable abbrev inv448 : EReal := Ideal.ofBits .f32 0x3B124925#32

/-- The kernel's exponent of a row with largest absolute value `a`. -/
noncomputable def kexp (a : EReal) : BitVec 32 :=
  if a = 0 then 0#32 else search (a * inv448) - 126#32

/-- The reference's exponent of a row with largest absolute value `a`. -/
noncomputable def rexp (a : EReal) : EReal :=
  if a = 0 then 0
  else max (Ideal.liftRound Int.floor (Ideal.div (Ideal.log (a * inv448)) (Ideal.log (Ideal.ofBits .f32 0x40000000#32))))
    (Ideal.ofBits .f32 0xC2FE0000#32) + Ideal.ofBits .f32 0x3F800000#32

/-- The real number that `inv448` is. -/
theorem inv448_eq : inv448 = ((9586981 : ℝ) / 2 ^ 32 : ℝ) := by
  simp [Ideal.ofBits, Ideal.ieee]; norm_num [← EReal.coe_mul, ← EReal.coe_neg]

/-- The constant 2. -/
theorem two_eq : Ideal.ofBits .f32 0x40000000#32 = ((2 : ℝ) : EReal) := by
  simp [Ideal.ofBits, Ideal.ieee]; norm_num [← EReal.coe_mul, ← EReal.coe_neg]

/-- The constant −127. -/
theorem neg127_eq : Ideal.ofBits .f32 0xC2FE0000#32 = ((-127 : ℝ) : EReal) := by
  simp [Ideal.ofBits, Ideal.ieee]; norm_num [← EReal.coe_mul, ← EReal.coe_neg]

/-- The constant 1. -/
theorem one_eq : Ideal.ofBits .f32 0x3F800000#32 = ((1 : ℝ) : EReal) := by
  simp [Ideal.ofBits, Ideal.ieee]; norm_num [← EReal.coe_mul, ← EReal.coe_neg]

/-- The floor of the logarithm of `y` to the base 2, from the binade of `y`. -/
theorem floor_log {y : ℝ} {k : ℤ} (h1 : (2 : ℝ) ^ k ≤ y) (h2 : y < (2 : ℝ) ^ (k + 1)) :
    ⌊Real.log y / Real.log 2⌋ = k := by
  have hp : 0 < y := lt_of_lt_of_le (zpow_pos (by norm_num) _) h1
  have hl : 0 < Real.log 2 := Real.log_pos (by norm_num)
  rw [Int.floor_eq_iff, le_div_iff₀ hl, div_lt_iff₀ hl]
  constructor
  · rw [← Real.log_zpow]
    exact Real.log_le_log (zpow_pos (by norm_num) _) h1
  · have := Real.log_lt_log hp h2
    rw [Real.log_zpow] at this
    push_cast at this
    exact this

/-- The two exponents agree: both are an integer `k`, the kernel's as a word. -/
theorem exp_eq {a : ℝ} (h0 : 0 ≤ a) (hb : a * ((9586981 : ℝ) / 2 ^ 32) < (2 : ℝ) ^ (126 : ℤ)) :
    ∃ n : ℕ, n ≤ 252 ∧ kexp (a : EReal) = BitVec.ofNat 32 n - 126#32 ∧
      rexp (a : EReal) = (((n : ℤ) - 126 : ℤ) : ℝ) := by
  by_cases ha : a = 0
  · subst ha
    refine ⟨126, by norm_num, ?_, ?_⟩
    · unfold kexp; rw [if_pos (by simp)]; rfl
    · unfold rexp; rw [if_pos (by simp)]; norm_num
  have hc : (a : EReal) ≠ 0 := by simpa using ha
  have hp : 0 < a * ((9586981 : ℝ) / 2 ^ 32) := by positivity
  have hm : (a : EReal) * inv448 = ((a * ((9586981 : ℝ) / 2 ^ 32) : ℝ) : EReal) := by
    rw [inv448_eq, EReal.coe_mul]
  obtain ⟨n, hn, hl, hu, -⟩ := search_inv hb
  unfold kexp rexp
  rw [if_neg hc, if_neg hc, hm, hn, two_eq, neg127_eq, one_eq]
  generalize a * ((9586981 : ℝ) / 2 ^ 32) = y at *
  have hlog : Real.log 2 ≠ 0 := (Real.log_pos (by norm_num)).ne'
  have hfl : Ideal.liftRound Int.floor (Ideal.div (Ideal.log (y : EReal)) (Ideal.log ((2 : ℝ) : EReal)))
      = ((⌊Real.log y / Real.log 2⌋ : ℝ) : EReal) := by
    have e1 : Ideal.log (y : EReal) = (Real.log y : EReal) := by
      show (if y ≤ 0 then ⊥ else (Real.log y : EReal)) = _
      rw [if_neg (by linarith)]
    have e2 : Ideal.log ((2 : ℝ) : EReal) = (Real.log 2 : EReal) := by
      show (if (2 : ℝ) ≤ 0 then ⊥ else (Real.log 2 : EReal)) = _
      rw [if_neg (by norm_num)]
    rw [e1, e2, Ideal.div, if_neg (by simpa using hlog), ← EReal.coe_inv, ← EReal.coe_mul, ← div_eq_mul_inv]
    rfl
  rw [hfl]
  have hn252 : n ≤ 252 := by
    rcases hl with h | h
    · omega
    · have := (zpow_lt_zpow_iff_right₀ (by norm_num : (1 : ℝ) < 2)).1 (lt_of_le_of_lt h hb)
      omega
  refine ⟨n, hn252, rfl, ?_⟩
  rw [← EReal.coe_strictMono.monotone.map_max, ← EReal.coe_add]
  congr 1
  rcases Nat.eq_zero_or_pos n with h | h
  · subst h
    have : Real.log y / Real.log 2 < -126 := by
      have hl2 : 0 < Real.log 2 := Real.log_pos (by norm_num)
      rw [div_lt_iff₀ hl2]
      have := Real.log_lt_log hp hu
      rw [Real.log_zpow] at this
      norm_num at this
      linarith
    have hf : ⌊Real.log y / Real.log 2⌋ < -126 := by
      rw [Int.floor_lt]; exact_mod_cast this
    have : ((⌊Real.log y / Real.log 2⌋ : ℤ) : ℝ) ≤ -127 := by
      have : ⌊Real.log y / Real.log 2⌋ ≤ -127 := by omega
      exact_mod_cast this
    rw [max_eq_right this]
    norm_num
  · have hl' := hl.resolve_left (by omega)
    rw [floor_log hl' (by convert hu using 2; ring)]
    rw [max_eq_left (by
      have : (-127 : ℤ) ≤ (n : ℤ) - 127 := by omega
      exact_mod_cast this)]
    push_cast
    ring

/-- The exponential of an integer to the base 2. -/
theorem exp2_int (k : ℤ) : Ideal.exp2 (((k : ℤ) : ℝ) : EReal) = (((2 : ℝ) ^ k : ℝ) : EReal) := by
  show ((Real.rpow 2 (k : ℝ) : ℝ) : EReal) = _
  rw [← Real.rpow_intCast]
  rfl

/-- The bound on a row's largest absolute value under which the scale is a normal number. -/
def Bounded (a : EReal) : Prop :=
  ∃ r : ℝ, a = r ∧ 0 ≤ r ∧ r * ((9586981 : ℝ) / 2 ^ 32) < (2 : ℝ) ^ (126 : ℤ)

/-- The kernel's scale, a pattern made of the exponent, is the reference's power of two. -/
theorem scale_eq {a : EReal} (h : Bounded a) :
    Ideal.ofBits .f32 ((kexp a + 127#32) <<< 23) = Ideal.exp2 (rexp a) := by
  obtain ⟨r, rfl, h0, hb⟩ := h
  obtain ⟨n, hn, hk, hr⟩ := exp_eq h0 hb
  rw [hk, hr, exp2_int]
  have : BitVec.ofNat 32 n - 126#32 + 127#32 = BitVec.ofNat 32 (n + 1) := by
    rw [BitVec.ofNat_add, BitVec.sub_eq_add_neg, BitVec.add_assoc]; rfl
  rw [this, show Ideal.ofBits .f32 (BitVec.ofNat 32 (n + 1) <<< 23) = T (n + 1) from rfl,
    T_pow (by omega) (by omega)]
  congr 2
  push_cast
  ring

/-- The kernel's inverse scale is the reference's. -/
theorem inv_eq {a : EReal} (h : Bounded a) :
    Ideal.ofBits .f32 ((127#32 - kexp a) <<< 23) = Ideal.exp2 (0 - rexp a) := by
  obtain ⟨r, rfl, h0, hb⟩ := h
  obtain ⟨n, hn, hk, hr⟩ := exp_eq h0 hb
  have hz : (0 : EReal) - ((((n : ℤ) - 126 : ℤ) : ℝ) : EReal) = (((126 - (n : ℤ) : ℤ) : ℝ) : EReal) := by
    rw [← EReal.coe_zero, ← EReal.coe_sub]
    congr 1
    push_cast
    ring
  rw [hk, hr, hz, exp2_int]
  have : 127#32 - (BitVec.ofNat 32 n - 126#32) = BitVec.ofNat 32 (253 - n) := by
    interval_cases n <;> rfl
  rw [this, show Ideal.ofBits .f32 (BitVec.ofNat 32 (253 - n) <<< 23) = T (253 - n) from rfl,
    T_pow (by omega) (by omega)]
  congr 2
  omega

/-! ## A row: its quantisation, its context, its mixture's weights -/

/-- The largest absolute value of a row. -/
noncomputable def amax {n : ℕ} (v : Fin n → EReal) : EReal := Finset.univ.sup fun d => max (v d) (-v d)

/-- A number clipped to what fp8 e4m3 can hold. -/
noncomputable def clip (x : EReal) : EReal := min (Ideal.ofBits .f32 0x43E00000#32) (max (Ideal.ofBits .f32 0xC3E00000#32) x)

/-- The scale of a row as the kernel makes it, -/
noncomputable def kscale (a : EReal) : EReal := Ideal.ofBits .f32 ((kexp a + 127#32) <<< 23)
/-- and the inverse of the scale. -/
noncomputable def kinv (a : EReal) : EReal := Ideal.ofBits .f32 ((127#32 - kexp a) <<< 23)

/-- A row's context before its quantisation, from the row's codes and scale. -/
noncomputable def ctxRow (code : Fin 1024 → EReal) (sc : EReal) (W : Fin 1024 → Fin 1280 → EReal) (s b : Fin 1280 → EReal)
    (j : Fin 1280) : EReal :=
  Ideal.tanh ((∑ d, code d * W d j) * sc * s j + b j)

/-- The codes of a row, from the inverse of its scale -/
noncomputable def qcode {n : ℕ} (inv : EReal → EReal) (v : Fin n → EReal) (d : Fin n) : EReal := clip (v d * inv (amax v))

/-- and a token's context before its quantisation, the token's row being quantised first. -/
noncomputable def qctx (inv sc : EReal → EReal) (x : Fin 1024 → EReal) (W : Fin 1024 → Fin 1280 → EReal) (s b : Fin 1280 → EReal)
    (j : Fin 1280) : EReal :=
  ctxRow (qcode inv x) (sc (amax x)) W s b j

/-- The logarithm of a softmax. -/
noncomputable def logSoftmax (z : Fin 4 → EReal) (k : Fin 4) : EReal :=
  z k - Finset.univ.sup z - Ideal.log (∑ j, Ideal.exp (z j - Finset.univ.sup z))

/-- A context's largest absolute value is at most 1, so its scale is a normal number. -/
theorem bounded_tanh {n : ℕ} (hn : 0 < n) (u : Fin n → EReal) : Bounded (amax fun j => Ideal.tanh (u j)) := by
  have h1 : ∀ x : EReal, ∃ r : ℝ, Ideal.tanh x = r ∧ |r| ≤ 1 := fun x => by
    induction x using EReal.rec with
    | bot => exact ⟨-1, (by rw [EReal.coe_neg, EReal.coe_one]; rfl : (Ideal.tanh ⊥ : EReal) = ((-1 : ℝ) : EReal)), by simp⟩
    | top => exact ⟨1, (by rw [EReal.coe_one]; rfl : (Ideal.tanh ⊤ : EReal) = ((1 : ℝ) : EReal)), by simp⟩
    | coe r => exact ⟨Real.tanh r, rfl, (Real.abs_tanh_lt_one r).le⟩
  choose f hf hf1 using h1
  have e : (amax fun j => Ideal.tanh (u j)) = Finset.univ.sup fun j => ((|f (u j)| : ℝ) : EReal) := by
    unfold amax
    refine Finset.sup_congr rfl fun j _ => ?_
    show max (Ideal.tanh (u j)) (-Ideal.tanh (u j)) = _
    rw [hf, ← EReal.coe_neg, ← EReal.coe_strictMono.monotone.map_max]
    rfl
  obtain ⟨j, -, hj⟩ := Finset.exists_mem_eq_sup (Finset.univ : Finset (Fin n)) ⟨⟨0, hn⟩, Finset.mem_univ _⟩
    fun j => ((|f (u j)| : ℝ) : EReal)
  refine ⟨|f (u j)|, by rw [e, hj], abs_nonneg _, ?_⟩
  have := hf1 (u j)
  have h2 : (1 : ℝ) < 2 ^ (126 : ℤ) := by norm_num
  have := abs_nonneg (f (u j))
  nlinarith

/-- A row of finite numbers within the range of bf16 has a normal scale. -/
theorem bounded_of_le {n : ℕ} (hn : 0 < n) (v : Fin n → EReal) {B : ℝ} (hB : B * ((9586981 : ℝ) / 2 ^ 32) < (2 : ℝ) ^ (126 : ℤ))
    (h : ∀ d, max (v d) (-v d) ≤ (B : EReal)) : Bounded (amax v) := by
  have h1 : ∀ d, ∃ r : ℝ, max (v d) (-v d) = r ∧ 0 ≤ r ∧ r ≤ B := fun d => by
    have := h d
    generalize v d = x at this ⊢
    induction x using EReal.rec with
    | bot => simp at this
    | top => simp at this
    | coe r =>
      refine ⟨|r|, ?_, abs_nonneg _, ?_⟩
      · rw [← EReal.coe_neg, ← EReal.coe_strictMono.monotone.map_max]; rfl
      · rw [← EReal.coe_neg, ← EReal.coe_strictMono.monotone.map_max, EReal.coe_le_coe_iff] at this
        exact this
  obtain ⟨d, -, hd⟩ := Finset.exists_mem_eq_sup (Finset.univ : Finset (Fin n)) ⟨⟨0, hn⟩, Finset.mem_univ _⟩
    fun d => max (v d) (-v d)
  obtain ⟨r, hr, h0, hb⟩ := h1 d
  refine ⟨r, by unfold amax; rw [hd, hr], h0, lt_of_le_of_lt ?_ hB⟩
  exact mul_le_mul_of_nonneg_right hb (by norm_num)

end Cert.Ctx
-- ==== Proof.CtxK.lean ====
/- The value of the `ctx` call: what its body leaves, row by row. -/
module

public import proofs.«01_k».proof.Proof.Gen.CtxKernelIdeal.Value
public import proofs.«01_k».proof.Proof.CtxPow
public import proofs.«01_k».proof.Proof.LossValue

@[expose] public section

set_option maxRecDepth 16384

noncomputable section

open scoped BigOperators
open Idealize.ShloMosaic Idealize.ShloMosaic.TcCoe Idealize.SL.Sem

namespace Cert.CtxKernelIdeal.Hand

open Cert.CtxKernelIdeal Cert.CtxKernelIdeal.Gen Cert.CtxKernelIdeal.Facts Cert.Ctx

/-- One step of the search of the exponent field, on a column of numbers. -/
def vstep (y : FVec Ideal S128x1 .f32) (k : BitVec 32) (n : IVec S128x1 32) : IVec S128x1 32 :=
  select (cmpf .oge y (bitcastToFloat .f32 (shli (addi n (broadcast S128x1 k)) (broadcast S128x1 23#32)))) (addi n (broadcast S128x1 k)) n

/-- The exponents of a column of largest absolute values. -/
def vexp (a : FVec Ideal S128x1 .f32) : IVec S128x1 32 :=
  let y : FVec Ideal S128x1 .f32 := mulf a (broadcast S128x1 (Scalar.ofBits .f32 0x3B124925#32))
  select (cmpf .oeq a (broadcast S128x1 (Scalar.ofBits .f32 0x00000000#32))) (broadcast S128x1 0#32)
    (subi (vstep y 1#32 (vstep y 2#32 (vstep y 4#32 (vstep y 8#32 (vstep y 16#32 (vstep y 32#32 (vstep y 64#32
      (vstep y 128#32 (broadcast S128x1 0#32))))))))) (broadcast S128x1 126#32))

/-- The step at a row. -/
theorem vstep_at (y : FVec Ideal S128x1 .f32) (k : BitVec 32) (n : IVec S128x1 32) (i : S128x1.Idx) :
    vstep y k n i = step (y i) k (n i) := by
  unfold vstep step
  simp only [pointwise]
  rfl

/-- The exponent of a row. -/
theorem vexp_at (a : FVec Ideal S128x1 .f32) (i : S128x1.Idx) : vexp a i = kexp (a i) := by
  unfold vexp kexp search
  simp only [pointwise, vstep_at]
  rfl

/-- The largest absolute value of every row of a context. -/
def vmax (z : FVec Ideal S128x1280 .f32) : FVec Ideal S128x1 .f32 :=
  shapeCast S128x1 (multiReduction .maximumf [1] S128 (absf z) 0xFF800000#32 reduces_S128x1280_S128 (.inl rfl) rfl) shapeCasts_S128_S128x1

/-- The exponents of the tokens' rows. -/
theorem exp_x (x : Vec Ideal S128x1024 .bf16) :
    k0_pay7 (k0_pay3 x) (k0_pay4 x) (k0_pay5 x) (k0_pay6 x) 16#32 = vexp (k0_pay3 x) := rfl

/-! ## The four contexts' pieces are one function of their context -/

/-- The codes of a context. -/
def vcodes (z : FVec Ideal S128x1280 .f32) : FVec Ideal S1x128x1280 .fp8e4m3 :=
  k0_pay40 z (subi (broadcast S128x1 127#32) (vexp (vmax z)))

section
variable (xs : FVec Ideal S128x1 .f32) (xc : FVec Ideal S128x1024 .fp8e4m3) (w : Vec Ideal S1x1024x1280 .fp8e4m3) (s b : Vec Ideal S1x1280 .f32)

/-- The first context's scales -/
theorem scale0 : k0_pay19 (k0_pay12 xs xc w s b) (k0_pay13 xs xc w s b) (k0_pay16 (k0_pay13 xs xc w s b) (k0_pay14 xs xc w s b) (k0_pay15 xs xc w s b))
    (k0_pay17 (k0_pay13 xs xc w s b) (k0_pay14 xs xc w s b) (k0_pay15 xs xc w s b)) = k0_pay8 (vexp (vmax (k0_pay11 xs xc w s b))) := rfl
/-- and codes, -/
theorem codes0 : k0_pay20 (k0_pay11 xs xc w s b) (k0_pay12 xs xc w s b) (k0_pay13 xs xc w s b) (k0_pay16 (k0_pay13 xs xc w s b) (k0_pay14 xs xc w s b) (k0_pay15 xs xc w s b))
    (k0_pay17 (k0_pay13 xs xc w s b) (k0_pay14 xs xc w s b) (k0_pay15 xs xc w s b)) = vcodes (k0_pay11 xs xc w s b) := rfl
/-- the second's, -/
theorem scale1 : k0_pay30 (F := Ideal) (k0_pay27 (k0_pay24 (k0_pay21 xs xc w) s b) (k0_pay25 (k0_pay21 xs xc w) s b) (k0_pay26 (k0_pay21 xs xc w) s b))
    (k0_pay28 (k0_pay23 (k0_pay21 xs xc w) s b)) 0#32 = k0_pay8 (vexp (vmax (k0_pay11 xs xc w s b))) := rfl
theorem codes1 : k0_pay31 (k0_pay22 (k0_pay21 xs xc w) s b) (k0_pay27 (k0_pay24 (k0_pay21 xs xc w) s b) (k0_pay25 (k0_pay21 xs xc w) s b) (k0_pay26 (k0_pay21 xs xc w) s b))
    (k0_pay28 (k0_pay23 (k0_pay21 xs xc w) s b)) 0#32 = vcodes (k0_pay11 xs xc w s b) := rfl
/-- the third's, -/
theorem scale2 : k0_pay38 (k0_pay33 xs xc w s b) (k0_pay34 (k0_pay33 xs xc w s b)) (k0_pay35 (k0_pay33 xs xc w s b)) (k0_pay36 (k0_pay33 xs xc w s b))
    = k0_pay8 (vexp (vmax (k0_pay11 xs xc w s b))) := rfl
theorem codes2 : k0_pay40 (k0_pay32 xs xc w s b) (k0_pay39 (k0_pay33 xs xc w s b) (k0_pay34 (k0_pay33 xs xc w s b)) (k0_pay35 (k0_pay33 xs xc w s b)) (k0_pay36 (k0_pay33 xs xc w s b)))
    = vcodes (k0_pay11 xs xc w s b) := rfl
/-- and the fourth's. -/
theorem scale3 : k0_pay49 (k0_pay42 xs xc w s b) (k0_pay43 xs xc w s b) (k0_pay46 (k0_pay43 xs xc w s b) k0_pay44 (k0_pay45 (F := Ideal)))
    (k0_pay47 (k0_pay43 xs xc w s b) k0_pay44 (k0_pay45 (F := Ideal))) = k0_pay8 (vexp (vmax (k0_pay11 xs xc w s b))) := rfl
theorem codes3 : k0_pay1 (k0_pay50 (k0_pay41 xs xc w s b) (k0_pay42 xs xc w s b) (k0_pay43 xs xc w s b) (k0_pay46 (k0_pay43 xs xc w s b) k0_pay44 (k0_pay45 (F := Ideal)))
    (k0_pay47 (k0_pay43 xs xc w s b) k0_pay44 (k0_pay45 (F := Ideal)))) = vcodes (k0_pay11 xs xc w s b) := rfl

/-- A context at a row and a coordinate. -/
theorem ctx_at (r : Fin 128) (j : Fin 1280) : k0_pay11 xs xc w s b (ix2 r j)
    = ctxRow (fun d => xc (ix2 r d)) (xs (ix2 r 0)) (fun d j => w (ix3 0 d j)) (fun j => s (ix2 0 j)) (fun j => b (ix2 0 j)) j := by
  unfold k0_pay11 ctxRow
  simp only [pointwise]
  rw [zero_add]
  rfl

end

/-- The largest absolute value of a row of a context, -/
theorem vmax_at (z : FVec Ideal S128x1280 .f32) (r : Fin 128) : vmax z (ix2 r 0) = amax fun j => z (ix2 r j) := by
  unfold vmax amax
  simp only [pointwise]
  simp only [Cert.Loss.ofBits_negInf, Cert.Loss.fold_max_eq_sup]
  rfl

/-- and of a token's row. -/
theorem xmax_at (x : Vec Ideal S128x1024 .bf16) (r : Fin 128) : k0_pay3 x (ix2 r 0) = amax fun d => x (ix2 r d) := by
  unfold k0_pay3 k0_pay2 amax
  simp only [pointwise]
  simp only [Cert.Loss.ofBits_negInf, Cert.Loss.fold_max_eq_sup]
  rfl

/-- The scale of a row. -/
theorem scale_at (a : FVec Ideal S128x1 .f32) (r : Fin 128) : (k0_pay8 (vexp a) : FVec Ideal S128x1 .f32) (ix2 r 0) = kscale (a (ix2 r 0)) := by
  unfold k0_pay8 kscale
  simp only [pointwise, vexp_at]
  rfl

/-- The code of a context at a row and a coordinate. -/
theorem codes_at (z : FVec Ideal S128x1280 .f32) (r : Fin 128) (j : Fin 1280) :
    vcodes z (ix3 0 r j) = clip (z (ix2 r j) * kinv (amax fun j => z (ix2 r j))) := by
  unfold vcodes k0_pay40 clip kinv
  simp only [pointwise, vexp_at]
  exact congrArg (fun a => min (Ideal.ofBits FTy.f32 1138753536#32) (max (Ideal.ofBits FTy.f32 3286237184#32)
    (z (ix2 r j) * Ideal.ofBits FTy.f32 ((127#32 - kexp a) <<< 23)))) (vmax_at z r)

/-- The code of a token at a coordinate. -/
theorem xcodes_at (x : Vec Ideal S128x1024 .bf16) (r : Fin 128) (d : Fin 1024) :
    k0_pay9 (k0_pay2 x) (vexp (k0_pay3 x)) (ix2 r d) = clip (x (ix2 r d) * kinv (amax fun d => x (ix2 r d))) := by
  unfold k0_pay9 clip kinv
  simp only [pointwise, vexp_at]
  unfold k0_pay2
  simp only [pointwise]
  exact congrArg (fun a => min (Ideal.ofBits FTy.f32 1138753536#32) (max (Ideal.ofBits FTy.f32 3286237184#32)
    (x (ix2 r d) * Ideal.ofBits FTy.f32 ((127#32 - kexp a) <<< 23)))) (xmax_at x r)

/-- The logits of a token's mixture. -/
def vlogits (v2 : FVec Ideal S128x1024 .f32) (wp : Vec Ideal S1024x128 .f32) (bp : Vec Ideal S1x4 .f32) : FVec Ideal S128x4 .f32 :=
  addf (extractStridedSlice S128x4 ![0, 0] (matmul (φ₂ := .f32) dot_S128x1024_S1024x128_S128x128_1_0_0_1_n_n (some .fp32) v2
    (shapeCast S1024x128 (wp : FVec Ideal S1024x128 .f32) shapeCasts_S1024x128_S1024x128) (constant S128x128 .f32 0x00000000#32)) slices_S128x128_o0_0_S128x4)
    (broadcastTo S128x4 (shapeCast S1x4 bp shapeCasts_S1x4_S1x4) broadcasts_S1x4_S128x4)

/-- The logarithms of the weights, of the logits. -/
def vlogSoftmax (z : FVec Ideal S128x4 .f32) : FVec Ideal S128x4 .f32 :=
  let y : FVec Ideal S128x4 .f32 := subf z (broadcastTo S128x4 (shapeCast S128x1 (multiReduction .maximumf [1] S128 z 0xFF800000#32 reduces_S128x4_S128 (.inl rfl) rfl) shapeCasts_S128_S128x1) broadcasts_S128x1_S128x4)
  subf y (broadcastTo S128x4 (log (shapeCast S128x1 (multiReduction .add [1] S128 (exp y) 0x00000000#32 reduces_S128x4_S128 (.inl rfl) rfl) shapeCasts_S128_S128x1)) broadcasts_S128x1_S128x4)

theorem pay10_eq (v2 : FVec Ideal S128x1024 .f32) (wp : Vec Ideal S1024x128 .f32) (bp : Vec Ideal S1x4 .f32) :
    k0_pay10 v2 wp bp = vlogSoftmax (vlogits v2 wp bp) := rfl

theorem logits_at (x : Vec Ideal S128x1024 .bf16) (wp : Vec Ideal S1024x128 .f32) (bp : Vec Ideal S1x4 .f32) (r : Fin 128) (k : Fin 4) :
    vlogits (k0_pay2 x) wp bp (ix2 r k) = (∑ d, x (ix2 r d) * wp (ix2 d (k.castLE (by norm_num)))) + bp (ix2 0 k) := by
  unfold vlogits k0_pay2
  simp only [pointwise]
  rw [zero_add]
  refine congrArg (· + bp (ix2 0 k)) (Finset.sum_congr rfl fun d _ => ?_)
  refine congrArg₂ (fun (a : Fin 128) (b : Fin 128) => x (ix2 a d) * wp (ix2 d b)) (Fin.ext ?_) (Fin.ext ?_)
  · show 0 + r.val = r.val; omega
  · show 0 + k.val = k.val; omega

theorem logSoftmax_at (z : FVec Ideal S128x4 .f32) (r : Fin 128) (k : Fin 4) :
    vlogSoftmax z (ix2 r k) = logSoftmax (fun k => z (ix2 r k)) k := by
  unfold vlogSoftmax logSoftmax
  simp only [pointwise, Ideal.reduceAdd_def]
  simp only [Cert.Loss.ofBits_negInf, Cert.Loss.fold_max_eq_sup]
  rfl

end Cert.CtxKernelIdeal.Hand

end

end
-- ==== Proof.CtxKValue.lean ====
/- The value of the `ctx` call: its five arrays after the run, at an index. -/
module

public import proofs.«01_k».proof.Proof.CtxK
public import proofs.«01_k».proof.Proof.LossSame

@[expose] public section

set_option maxRecDepth 16384

noncomputable section

open scoped BigOperators
open Idealize.ShloMosaic Idealize.ShloMosaic.TcCoe Idealize.SL.Sem

namespace Cert.Ctx

/-- An index of a three-dimensional array by its coordinates. -/
theorem idx3 {a b c : ℕ} (i : (⟨3, ![a, b, c]⟩ : Shape).Idx) : i = ix3 (i 0) (i 1) (i 2) :=
  funext fun x => match x with | ⟨0, _⟩ => rfl | ⟨1, _⟩ => rfl | ⟨2, _⟩ => rfl

/-- A load of one matrix of a stack, at an index. -/
theorem ld_stack {a b c : ℕ} {e : EltTy} (X : Vec Ideal (⟨3, ![a, b, c]⟩ : Shape) e) (o : ℕ) (ho : o < a) (inb) (i : Fin b) (j : Fin c) :
    View.ld X (Rect.unit (s := (⟨3, ![a, b, c]⟩ : Shape)) ![o, 0, 0] (⟨3, ![1, b, c]⟩ : Shape).size inb) (ix3 0 i j) = X (ix3 ⟨o, ho⟩ i j) := by
  refine congrArg X (funext fun x => Fin.ext ?_)
  match x with
  | ⟨0, _⟩ => rfl
  | ⟨1, _⟩ => show 0 + 1 * i.val = i.val; omega
  | ⟨2, _⟩ => show 0 + 1 * j.val = j.val; omega

/-- A load of one row of a matrix, at an index. -/
theorem ld_row {a b : ℕ} {e : EltTy} (X : Vec Ideal (⟨2, ![a, b]⟩ : Shape) e) (o : ℕ) (ho : o < a) (inb) (j : Fin b) :
    View.ld X (Rect.unit (s := (⟨2, ![a, b]⟩ : Shape)) ![o, 0] (⟨2, ![1, b]⟩ : Shape).size inb) (ix2 0 j) = X (ix2 ⟨o, ho⟩ j) := by
  refine congrArg X (funext fun x => Fin.ext ?_)
  match x with
  | ⟨0, _⟩ => rfl
  | ⟨1, _⟩ => show 0 + 1 * j.val = j.val; omega

/-- The place of a stored matrix in a stack. -/
theorem emb_stack {a b c : ℕ} (o : ℕ) (ho : o < a) (inb) (i : Fin b) (j : Fin c) :
    (Rect.unit (s := (⟨3, ![a, b, c]⟩ : Shape)) ![o, 0, 0] (⟨3, ![1, b, c]⟩ : Shape).size inb).emb (ix3 0 i j) = ix3 ⟨o, ho⟩ i j := by
  refine funext fun x => Fin.ext ?_
  match x with
  | ⟨0, _⟩ => rfl
  | ⟨1, _⟩ => show 0 + 1 * i.val = i.val; omega
  | ⟨2, _⟩ => show 0 + 1 * j.val = j.val; omega

/-- The place of a stored column in a matrix. -/
theorem emb_col {a b : ℕ} (o : ℕ) (ho : o < b) (inb) (i : Fin a) :
    (Rect.unit (s := (⟨2, ![a, b]⟩ : Shape)) ![0, o] (⟨2, ![a, 1]⟩ : Shape).size inb).emb (ix2 i 0) = ix2 i ⟨o, ho⟩ := by
  refine funext fun x => Fin.ext ?_
  match x with
  | ⟨0, _⟩ => show 0 + 1 * i.val = i.val; omega
  | ⟨1, _⟩ => rfl

/-- A stored matrix of a stack is a function's there, where it is at every index. -/
theorem piece_stack {a b c : ℕ} {e : EltTy} (G : Fin a → Fin b → Fin c → Elt Ideal e) (o : ℕ) (ho : o < a) (p : Vec Ideal (⟨3, ![1, b, c]⟩ : Shape) e)
    (hp : ∀ i j, p (ix3 0 i j) = G ⟨o, ho⟩ i j) (inb) (x : (⟨3, ![1, b, c]⟩ : Shape).Idx) :
    p x = (fun y : (⟨3, ![a, b, c]⟩ : Shape).Idx => G (y 0) (y 1) (y 2))
      ((Rect.unit (s := (⟨3, ![a, b, c]⟩ : Shape)) ![o, 0, 0] (⟨3, ![1, b, c]⟩ : Shape).size inb).emb x) := by
  obtain ⟨i, j, rfl⟩ : ∃ i j, x = ix3 0 i j := ⟨x 1, x 2, by
    rw [idx3 x]; refine congrArg (fun a => ix3 a (x 1) (x 2)) (Fin.ext ?_)
    have : (x 0).val < 1 := (x 0).isLt
    show (x 0).val = 0; omega⟩
  rw [emb_stack o ho, hp]
  rfl

/-- A stored column of a matrix likewise. -/
theorem piece_col {a b : ℕ} {e : EltTy} (G : Fin a → Fin b → Elt Ideal e) (o : ℕ) (ho : o < b) (p : Vec Ideal (⟨2, ![a, 1]⟩ : Shape) e)
    (hp : ∀ i, p (ix2 i 0) = G i ⟨o, ho⟩) (inb) (x : (⟨2, ![a, 1]⟩ : Shape).Idx) :
    p x = (fun y : (⟨2, ![a, b]⟩ : Shape).Idx => G (y 0) (y 1))
      ((Rect.unit (s := (⟨2, ![a, b]⟩ : Shape)) ![0, o] (⟨2, ![a, 1]⟩ : Shape).size inb).emb x) := by
  obtain ⟨i, rfl⟩ : ∃ i, x = ix2 i 0 := ⟨x 0, by
    rw [Cert.Loss.idx2 x]; refine congrArg (fun a => ix2 (x 0) a) (Fin.ext ?_)
    have : (x 1).val < 1 := (x 1).isLt
    show (x 1).val = 0; omega⟩
  rw [emb_col o ho, hp]
  rfl

end Cert.Ctx

namespace Cert.CtxKernelIdeal.Hand

open Cert.CtxKernelIdeal Cert.CtxKernelIdeal.Gen Cert.CtxKernelIdeal.Facts Cert.Ctx
open Cert.LossKernelIdeal.Hand (zero2)

/-! ## What the body leaves, of the blocks it is given -/

section
variable (x0 : Vec Ideal S128x1024 .bf16) (x1 : Vec Ideal S4x1024x1280 .fp8e4m3) (x2 : Vec Ideal S4x1280 .f32) (x3 : Vec Ideal S4x1280 .f32)
  (x4 : Vec Ideal S1024x128 .f32) (x5 : Vec Ideal S1x128 .f32)

/-- The context of a token in the block, before its quantisation. -/
def zrow (k : Fin 4) (r : Fin 128) (j : Fin 1280) : EReal :=
  qctx kinv kscale (fun d => x0 (ix2 r d)) (fun d j => x1 (ix3 k d j)) (fun j => x2 (ix2 k j)) (fun j => x3 (ix2 k j)) j

/-- The contexts of the block, of loaded weights. -/
def vctx (w : Vec Ideal S1x1024x1280 .fp8e4m3) (s b : Vec Ideal S1x1280 .f32) : FVec Ideal S128x1280 .f32 :=
  k0_pay11 (k0_pay8 (vexp (k0_pay3 x0))) (k0_pay9 (k0_pay2 x0) (vexp (k0_pay3 x0))) w s b

theorem vctx_at (w : Vec Ideal S1x1024x1280 .fp8e4m3) (s b : Vec Ideal S1x1280 .f32) (k : Fin 4)
    (hw : ∀ d j, w (ix3 0 d j) = x1 (ix3 k d j)) (hs : ∀ j, s (ix2 0 j) = x2 (ix2 k j)) (hb : ∀ j, b (ix2 0 j) = x3 (ix2 k j)) (r : Fin 128) (j : Fin 1280) :
    vctx x0 w s b (ix2 r j) = zrow x0 x1 x2 x3 k r j := by
  unfold vctx zrow qctx qcode
  rw [ctx_at]
  simp only [xcodes_at, scale_at, xmax_at, hw, hs, hb]

/-- The codes the body stores for a context, at a row and a coordinate -/
theorem codes_k (o : ℕ) (ho : o < 4) (h1) (h2) (r : Fin 128) (j : Fin 1280) :
    vcodes (vctx x0 (View.ld x1 (Rect.unit (s := S4x1024x1280) ![o, 0, 0] S1x1024x1280.size h1)) (View.ld x2 (Rect.unit (s := S4x1280) ![o, 0] S1x1280.size h2))
      (View.ld x3 (Rect.unit (s := S4x1280) ![o, 0] S1x1280.size h2))) (ix3 0 r j) = qcode kinv (zrow x0 x1 x2 x3 ⟨o, ho⟩ r) j := by
  rw [codes_at]
  simp only [vctx_at x0 x1 x2 x3 _ _ _ ⟨o, ho⟩ (ld_stack x1 o ho h1) (ld_row x2 o ho h2) (ld_row x3 o ho h2)]
  rfl

/-- and the scales. -/
theorem scale_k (o : ℕ) (ho : o < 4) (h1) (h2) (r : Fin 128) :
    (k0_pay8 (vexp (vmax (vctx x0 (View.ld x1 (Rect.unit (s := S4x1024x1280) ![o, 0, 0] S1x1024x1280.size h1)) (View.ld x2 (Rect.unit (s := S4x1280) ![o, 0] S1x1280.size h2))
      (View.ld x3 (Rect.unit (s := S4x1280) ![o, 0] S1x1280.size h2))))) : FVec Ideal S128x1 .f32) (ix2 r 0) = kscale (amax (zrow x0 x1 x2 x3 ⟨o, ho⟩ r)) := by
  rw [scale_at, vmax_at]
  simp only [vctx_at x0 x1 x2 x3 _ _ _ ⟨o, ho⟩ (ld_stack x1 o ho h1) (ld_row x2 o ho h2) (ld_row x3 o ho h2)]

/-- The four stores of codes are one function of their context, -/
theorem left9 : out0_9 x0 x1 x2 x3 x4 x5 = View.canon (Val := Elt Ideal)
    [⟨r0_19, vcodes (vctx x0 (View.ld x1 r0_17) (View.ld x2 r0_18) (View.ld x3 r0_18))⟩, ⟨r0_15, vcodes (vctx x0 (View.ld x1 r0_13) (View.ld x2 r0_14) (View.ld x3 r0_14))⟩,
      ⟨r0_11, vcodes (vctx x0 (View.ld x1 r0_9) (View.ld x2 r0_10) (View.ld x3 r0_10))⟩, ⟨r0_7, vcodes (vctx x0 (View.ld x1 r0_5) (View.ld x2 r0_6) (View.ld x3 r0_6))⟩] := by
  have hx : View.ld (Val := Elt Ideal) x0 r0_0 = x0 := View.ld_unit_zero zero2 _ _
  unfold_out out0_9
  rw [codes3, codes2, codes1, codes0, hx, exp_x]
  unfold vctx
  rfl

/-- and so are the four stores of scales. -/
theorem left10 : out0_10 x0 x1 x2 x3 x4 x5 = View.canon (Val := Elt Ideal) (e := .f32)
    [⟨r0_20, k0_pay8 (F := Ideal) (vexp (vmax (vctx x0 (View.ld x1 r0_17) (View.ld x2 r0_18) (View.ld x3 r0_18))))⟩, ⟨r0_16, k0_pay8 (F := Ideal) (vexp (vmax (vctx x0 (View.ld x1 r0_13) (View.ld x2 r0_14) (View.ld x3 r0_14))))⟩,
      ⟨r0_12, k0_pay8 (F := Ideal) (vexp (vmax (vctx x0 (View.ld x1 r0_9) (View.ld x2 r0_10) (View.ld x3 r0_10))))⟩, ⟨r0_8, k0_pay8 (F := Ideal) (vexp (vmax (vctx x0 (View.ld x1 r0_5) (View.ld x2 r0_6) (View.ld x3 r0_6))))⟩] := by
  have hx : View.ld (Val := Elt Ideal) x0 r0_0 = x0 := View.ld_unit_zero zero2 _ _
  unfold_out out0_10
  rw [scale3, scale2, scale1, scale0, hx, exp_x]
  unfold vctx
  rfl

/-- The codes of the contexts that the body leaves -/
theorem out9_at (k : Fin 4) (r : Fin 128) (j : Fin 1280) : out0_9 x0 x1 x2 x3 x4 x5 (ix3 k r j) = qcode kinv (zrow x0 x1 x2 x3 k r) j := by
  rw [left9]
  refine View.canon_apply_of_pieces (Val := Elt Ideal) (fun y : S4x128x1280.Idx => qcode kinv (zrow x0 x1 x2 x3 (y 0) (y 1)) (y 2)) _ ?_ (ix3 k r j) (cover0_9 _ _ _ _ _)
  rw [List.forall_mem_cons, List.forall_mem_cons, List.forall_mem_cons, List.forall_mem_cons]
  exact ⟨piece_stack (e := .fp8e4m3) (fun k r j => qcode kinv (zrow x0 x1 x2 x3 k r) j) 3 (by norm_num) _ (codes_k x0 x1 x2 x3 3 (by norm_num) _ _) inb_S4x128x1280_S1x128x1280_3_0_0,
    piece_stack (e := .fp8e4m3) (fun k r j => qcode kinv (zrow x0 x1 x2 x3 k r) j) 2 (by norm_num) _ (codes_k x0 x1 x2 x3 2 (by norm_num) _ _) inb_S4x128x1280_S1x128x1280_2_0_0,
    piece_stack (e := .fp8e4m3) (fun k r j => qcode kinv (zrow x0 x1 x2 x3 k r) j) 1 (by norm_num) _ (codes_k x0 x1 x2 x3 1 (by norm_num) _ _) inb_S4x128x1280_S1x128x1280_1_0_0,
    piece_stack (e := .fp8e4m3) (fun k r j => qcode kinv (zrow x0 x1 x2 x3 k r) j) 0 (by norm_num) _ (codes_k x0 x1 x2 x3 0 (by norm_num) _ _) inb_S4x128x1280_S1x128x1280_0_0_0,
    List.forall_mem_nil _⟩

/-- and their scales. -/
theorem out10_at (k : Fin 4) (r : Fin 128) : out0_10 x0 x1 x2 x3 x4 x5 (ix2 r k) = kscale (amax (zrow x0 x1 x2 x3 k r)) := by
  rw [left10]
  refine View.canon_apply_of_pieces (Val := Elt Ideal) (fun y : S128x4.Idx => kscale (amax (zrow x0 x1 x2 x3 (y 1) (y 0)))) _ ?_ (ix2 r k) (cover0_10 _ _ _ _ _)
  rw [List.forall_mem_cons, List.forall_mem_cons, List.forall_mem_cons, List.forall_mem_cons]
  exact ⟨piece_col (e := .f32) (fun r k => kscale (amax (zrow x0 x1 x2 x3 k r))) 3 (by norm_num) _ (scale_k x0 x1 x2 x3 3 (by norm_num) _ _) inb_S128x4_S128x1_0_3,
    piece_col (e := .f32) (fun r k => kscale (amax (zrow x0 x1 x2 x3 k r))) 2 (by norm_num) _ (scale_k x0 x1 x2 x3 2 (by norm_num) _ _) inb_S128x4_S128x1_0_2,
    piece_col (e := .f32) (fun r k => kscale (amax (zrow x0 x1 x2 x3 k r))) 1 (by norm_num) _ (scale_k x0 x1 x2 x3 1 (by norm_num) _ _) inb_S128x4_S128x1_0_1,
    piece_col (e := .f32) (fun r k => kscale (amax (zrow x0 x1 x2 x3 k r))) 0 (by norm_num) _ (scale_k x0 x1 x2 x3 0 (by norm_num) _ _) inb_S128x4_S128x1_0_0,
    List.forall_mem_nil _⟩

/-- The tokens' codes -/
theorem out6_at (r : Fin 128) (d : Fin 1024) : out0_6 x0 x1 x2 x3 x4 x5 (ix2 r d) = qcode kinv (fun d => x0 (ix2 r d)) d := by
  unfold_out out0_6
  rw [View.canon_unit_zero zero2, View.ld_unit_zero zero2, exp_x]
  exact xcodes_at x0 r d

/-- and scales. -/
theorem out7_at (r : Fin 128) : out0_7 x0 x1 x2 x3 x4 x5 (ix2 r 0) = kscale (amax fun d => x0 (ix2 r d)) := by
  unfold_out out0_7
  rw [View.canon_unit_zero zero2, View.ld_unit_zero zero2, exp_x]
  rw [scale_at, xmax_at]

/-- The logarithms of the weights of the mixture. -/
theorem out8_at (r : Fin 128) (k : Fin 4) : out0_8 x0 x1 x2 x3 x4 x5 (ix2 r k)
    = logSoftmax (fun k => (∑ d, x0 (ix2 r d) * x4 (ix2 d (k.castLE (by norm_num)))) + x5 (ix2 0 (k.castLE (by norm_num)))) k := by
  unfold_out out0_8
  rw [View.canon_unit_zero zero2, View.ld_unit_zero zero2, View.ld_unit_zero zero2, pay10_eq, logSoftmax_at]
  refine congrArg (fun z => logSoftmax z k) (funext fun k => ?_)
  rw [logits_at]
  refine congrArg _ ?_
  refine congrArg x5 (funext fun x => Fin.ext ?_)
  match x with
  | ⟨0, _⟩ => rfl
  | ⟨1, _⟩ => show 0 + 1 * k.val = k.val; omega

end

end Cert.CtxKernelIdeal.Hand

end

end
-- ==== Proof.CtxKRun.lean ====
/- The five arrays of the `ctx` call after the run, of the arguments. -/
module

public import proofs.«01_k».proof.Proof.CtxKValue
public import Idealize.ShloMosaic.Lib.KernelVsHost

@[expose] public section

set_option maxRecDepth 16384

noncomputable section

open scoped BigOperators
open Idealize.ShloMosaic Idealize.ShloMosaic.TcCoe Idealize.SL.Sem

namespace Cert.CtxKernelIdeal.Hand

open Cert.CtxKernelIdeal Cert.CtxKernelIdeal.Gen Cert.CtxKernelIdeal.Facts Cert.CtxKernelIdeal.Value Cert.Ctx

variable (m : (ℓ : Loc nD τ sig) → Buf (Elt Ideal) ℓ) (c : Dev nD)

/-! ## What the region finds -/

/-- The tokens' rows. -/
def arrX : Vec Ideal S4096x1024 .bf16 := V m c main_v4
/-- The contexts' weights, a matrix for every context. -/
def arrW : Vec Ideal S4x1024x1280 .fp8e4m3 := V m c main_v0
/-- The contexts' scales, -/
def arrS : Vec Ideal S4x1280 .f32 := V m c main_arg2
/-- and biases. -/
def arrB : Vec Ideal S4x1280 .f32 := V m c main_arg3
/-- The mixture's weights, padded with zero columns, -/
def arrP : Vec Ideal S1024x128 .f32 := V m c main_v1
/-- and its biases, padded with zeros. -/
def arrQ : Vec Ideal S1x128 .f32 := V m c main_v3

/-- The tokens' rows are the first argument's. -/
theorem arrX_eq : arrX m c = shapeCast S4096x1024 (m ((c : Thread nD τ).loc main_arg0)) Gen.shapeCasts_S2x2048x1024_S4096x1024 := by
  show StableHlo.after (List.flatten [hostOps0, hostOps0_1, hostOps0_2, hostOps0_3, hostOps0_4]) _ (Proc.devRef .tc main_v4) = _
  simp only [hostOps0, hostOps0_1, hostOps0_2, hostOps0_3, hostOps0_4, List.flatten_cons, List.flatten_nil, List.append_nil, List.cons_append, List.nil_append]
  after_results
  all_goals rfl

/-- The weights are the second argument's, a matrix for every context. -/
theorem arrW_eq : arrW m c = transpose S4x1024x1280 [1, 0, 2] (m ((c : Thread nD τ).loc main_arg1)) Gen.transposes_S1024x4x1280_S4x1024x1280_1_0_2 := by
  show StableHlo.after (List.flatten [hostOps0, hostOps0_1, hostOps0_2, hostOps0_3, hostOps0_4]) _ (Proc.devRef .tc main_v0) = _
  simp only [hostOps0, hostOps0_1, hostOps0_2, hostOps0_3, hostOps0_4, List.flatten_cons, List.flatten_nil, List.append_nil, List.cons_append, List.nil_append]
  after_results
  all_goals rfl

/-- The mixture's weights are the fifth argument's, with columns of zeros after them. -/
theorem arrP_eq : arrP m c = pad S1024x128 ![0, 0] ![0, 124] ![0, 0] (m ((c : Thread nD τ).loc main_arg4) : Vec Ideal S1024x4 .f32)
    (sitofp (F := Ideal) .f32 (constantI S_ 32 0#32)) Gen.pads_S1024x4_S1024x128_000_01240 Gen.h_S_ := by
  show StableHlo.after (List.flatten [hostOps0, hostOps0_1, hostOps0_2, hostOps0_3, hostOps0_4]) _ (Proc.devRef .tc main_v1) = _
  simp only [hostOps0, hostOps0_1, hostOps0_2, hostOps0_3, hostOps0_4, List.flatten_cons, List.flatten_nil, List.append_nil, List.cons_append, List.nil_append]
  after_results
  all_goals rfl

/-- The mixture's biases are the sixth argument's, with zeros after them. -/
theorem arrQ_eq : arrQ m c = shapeCast S1x128 (pad S128 ![0] ![124] ![0] (m ((c : Thread nD τ).loc main_arg5) : Vec Ideal S4 .f32)
    (sitofp (F := Ideal) .f32 (constantI S_ 32 0#32)) Gen.pads_S4_S128_01240 Gen.h_S_) Gen.shapeCasts_S128_S1x128 := by
  show StableHlo.after (List.flatten [hostOps0, hostOps0_1, hostOps0_2, hostOps0_3, hostOps0_4]) _ (Proc.devRef .tc main_v3) = _
  simp only [hostOps0, hostOps0_1, hostOps0_2, hostOps0_3, hostOps0_4, List.flatten_cons, List.flatten_nil, List.append_nil, List.cons_append, List.nil_append]
  after_results
  all_goals rfl

/-- A weight of the mixture. -/
theorem arrP_at (d : Fin 1024) (k : Fin 4) : arrP m c (ix2 d (k.castLE (by norm_num))) = (m ((c : Thread nD τ).loc main_arg4) : Vec Ideal S1024x4 .f32) (ix2 d k) := by
  rw [arrP_eq]
  refine pad_apply_of_inside _ _ _ _ _ _ _ _ (ix2 d k) fun a => ?_
  match a with
  | ⟨0, _⟩ => show d.val = 0 + d.val * 1; omega
  | ⟨1, _⟩ => show k.val = 0 + k.val * 1; omega

/-- A row of a vector, at an index. -/
theorem row_at (y : FVec Ideal S128 .f32) (k : Fin 128) : shapeCast S1x128 y Gen.shapeCasts_S128_S1x128 (ix2 0 k) = y (ix1 k) := by
  simp only [pointwise]

/-- A bias of the mixture. -/
theorem arrQ_at (k : Fin 4) : arrQ m c (ix2 0 (k.castLE (by norm_num))) = (m ((c : Thread nD τ).loc main_arg5) : Vec Ideal S4 .f32) (ix1 k) := by
  rw [arrQ_eq]
  refine (row_at _ _).trans (pad_apply_of_inside _ _ _ _ _ _ _ _ (ix1 k) fun a => ?_)
  match a with
  | ⟨0, _⟩ => show k.val = 0 + k.val * 1; omega

/-! ## The blocks -/

/-- The grid point of a token, -/
def pt (n : Fin 4096) : Fin cfg0.N := ⟨n.val / 128, by show n.val / 128 < 32; omega⟩
/-- and its row in the point's block. -/
def lane (n : Fin 4096) : Fin 128 := ⟨n.val % 128, by omega⟩

theorem word (t : Fin cfg0.N) : (BitVec.ofNat 32 (grid0.coords t 0).val).toNat = t.val :=
  (by decide +kernel : ∀ t : Fin grid0.N, (BitVec.ofNat 32 (grid0.coords t 0).val).toNat = t.val) t

theorem place (n : Fin 4096) : (BitVec.ofNat 32 (grid0.coords (pt n) 0).val).toNat * 128 + 1 * (lane n).val = n.val := by
  rw [word]; show n.val / 128 * 128 + 1 * (n.val % 128) = n.val; omega

theorem blk0_at (n : Fin 4096) (d : Fin 1024) : (iblk m c 0 (pt n) : Vec Ideal S128x1024 .bf16) (ix2 (lane n) d) = arrX m c (ix2 n d) := by
  refine congrArg (arrX m c) (funext fun a => Fin.ext ?_)
  match a with
  | ⟨0, _⟩ => exact place n
  | ⟨1, _⟩ => show 0 * 1024 + 1 * d.val = d.val; omega
theorem blk1 (t : Fin cfg0.N) : (iblk m c 1 t : Vec Ideal S4x1024x1280 .fp8e4m3) = arrW m c := funext fun y => by
  refine congrArg (arrW m c) (funext fun a => Fin.ext ?_)
  match a with
  | ⟨0, _⟩ => show 0 * 4 + 1 * (y 0).val = (y 0).val; omega
  | ⟨1, _⟩ => show 0 * 1024 + 1 * (y 1).val = (y 1).val; omega
  | ⟨2, _⟩ => show 0 * 1280 + 1 * (y 2).val = (y 2).val; omega
theorem blk2 (t : Fin cfg0.N) : (iblk m c 2 t : Vec Ideal S4x1280 .f32) = arrS m c := funext fun y => by
  refine congrArg (arrS m c) (funext fun a => Fin.ext ?_)
  match a with
  | ⟨0, _⟩ => show 0 * 4 + 1 * (y 0).val = (y 0).val; omega
  | ⟨1, _⟩ => show 0 * 1280 + 1 * (y 1).val = (y 1).val; omega
theorem blk3 (t : Fin cfg0.N) : (iblk m c 3 t : Vec Ideal S4x1280 .f32) = arrB m c := funext fun y => by
  refine congrArg (arrB m c) (funext fun a => Fin.ext ?_)
  match a with
  | ⟨0, _⟩ => show 0 * 4 + 1 * (y 0).val = (y 0).val; omega
  | ⟨1, _⟩ => show 0 * 1280 + 1 * (y 1).val = (y 1).val; omega
theorem blk4 (t : Fin cfg0.N) : (iblk m c 4 t : Vec Ideal S1024x128 .f32) = arrP m c := funext fun y => by
  refine congrArg (arrP m c) (funext fun a => Fin.ext ?_)
  match a with
  | ⟨0, _⟩ => show 0 * 1024 + 1 * (y 0).val = (y 0).val; omega
  | ⟨1, _⟩ => show 0 * 128 + 1 * (y 1).val = (y 1).val; omega
theorem blk5 (t : Fin cfg0.N) : (iblk m c 5 t : Vec Ideal S1x128 .f32) = arrQ m c := funext fun y => by
  refine congrArg (arrQ m c) (funext fun a => Fin.ext ?_)
  match a with
  | ⟨0, _⟩ => show 0 * 1 + 1 * (y 0).val = (y 0).val; omega
  | ⟨1, _⟩ => show 0 * 128 + 1 * (y 1).val = (y 1).val; omega

/-! ## The arrays -/

/-- A token's row. -/
def xrow (n : Fin 4096) (d : Fin 1024) : EReal := arrX m c (ix2 n d)
/-- A token's context before its quantisation. -/
def ctxv (n : Fin 4096) (k : Fin 4) (j : Fin 1280) : EReal :=
  qctx kinv kscale (xrow m c n) (fun d j => arrW m c (ix3 k d j)) (fun j => arrS m c (ix2 k j)) (fun j => arrB m c (ix2 k j)) j

theorem xrow_blk (n : Fin 4096) : (fun d => (iblk m c 0 (pt n) : Vec Ideal S128x1024 .bf16) (ix2 (lane n) d)) = xrow m c n :=
  funext fun d => blk0_at m c n d

theorem zrow_blk (n : Fin 4096) (k : Fin 4) : zrow (iblk m c 0 (pt n)) (iblk m c 1 (pt n)) (iblk m c 2 (pt n)) (iblk m c 3 (pt n)) k (lane n) = ctxv m c n k := by
  unfold zrow ctxv
  rw [xrow_blk, show iblk m c 1 (pt n) = arrW m c from blk1 m c _, show iblk m c 2 (pt n) = arrS m c from blk2 m c _,
    show iblk m c 3 (pt n) = arrB m c from blk3 m c _]

theorem flush6 (t : Fin cfg0.N) : (cfg0.win 6).flush t = true := (by decide +kernel : ∀ t : Fin grid0.N, (cfg0.win 6).flush t = true) t
theorem flush7 (t : Fin cfg0.N) : (cfg0.win 7).flush t = true := (by decide +kernel : ∀ t : Fin grid0.N, (cfg0.win 7).flush t = true) t
theorem flush8 (t : Fin cfg0.N) : (cfg0.win 8).flush t = true := (by decide +kernel : ∀ t : Fin grid0.N, (cfg0.win 8).flush t = true) t
theorem flush9 (t : Fin cfg0.N) : (cfg0.win 9).flush t = true := (by decide +kernel : ∀ t : Fin grid0.N, (cfg0.win 9).flush t = true) t
theorem flush10 (t : Fin cfg0.N) : (cfg0.win 10).flush t = true := (by decide +kernel : ∀ t : Fin grid0.N, (cfg0.win 10).flush t = true) t

/-- The tokens' codes. -/
theorem final6 (n : Fin 4096) (d : Fin 1024) : ((dats m 0 c).arrAt 6 cfg0.N : Vec Ideal S4096x1024 .fp8e4m3) (ix2 n d) = qcode kinv (xrow m c n) d := by
  have h := congrFun ((blocks6 m c (pt n) (flush6 _)).trans (flushed6 m c (pt n))) (ix2 (lane n) d)
  refine Eq.trans (congrArg ((dats m 0 c).arrAt 6 cfg0.N : Vec Ideal S4096x1024 .fp8e4m3) (funext fun a => Fin.ext ?_)) (h.trans ?_)
  · match a with
    | ⟨0, _⟩ => exact (place n).symm
    | ⟨1, _⟩ => show d.val = 0 * 1024 + 1 * d.val; omega
  · refine (out6_at _ _ _ _ _ _ (lane n) d).trans ?_
    rw [xrow_blk]

/-- The tokens' scales. -/
theorem final7 (n : Fin 4096) : ((dats m 0 c).arrAt 7 cfg0.N : Vec Ideal S4096x1 .f32) (ix2 n 0) = kscale (amax (xrow m c n)) := by
  have h := congrFun ((blocks7 m c (pt n) (flush7 _)).trans (flushed7 m c (pt n))) (ix2 (lane n) 0)
  refine Eq.trans (congrArg ((dats m 0 c).arrAt 7 cfg0.N : Vec Ideal S4096x1 .f32) (funext fun a => Fin.ext ?_)) (h.trans ?_)
  · match a with
    | ⟨0, _⟩ => exact (place n).symm
    | ⟨1, _⟩ => rfl
  · refine (out7_at _ _ _ _ _ _ (lane n)).trans ?_
    rw [xrow_blk]

/-- The logarithms of the mixture's weights. -/
theorem final8 (n : Fin 4096) (k : Fin 4) : ((dats m 0 c).arrAt 8 cfg0.N : Vec Ideal S4096x4 .f32) (ix2 n k)
    = logSoftmax (fun k => (∑ d, xrow m c n d * (m ((c : Thread nD τ).loc main_arg4) : Vec Ideal S1024x4 .f32) (ix2 d k))
        + (m ((c : Thread nD τ).loc main_arg5) : Vec Ideal S4 .f32) (ix1 k)) k := by
  have h := congrFun ((blocks8 m c (pt n) (flush8 _)).trans (flushed8 m c (pt n))) (ix2 (lane n) k)
  refine Eq.trans (congrArg ((dats m 0 c).arrAt 8 cfg0.N : Vec Ideal S4096x4 .f32) (funext fun a => Fin.ext ?_)) (h.trans ?_)
  · match a with
    | ⟨0, _⟩ => exact (place n).symm
    | ⟨1, _⟩ => show k.val = 0 * 4 + 1 * k.val; omega
  · refine (out8_at _ _ _ _ _ _ (lane n) k).trans ?_
    rw [show iblk m c 4 (pt n) = arrP m c from blk4 m c _, show iblk m c 5 (pt n) = arrQ m c from blk5 m c _]
    refine congrArg (fun z => logSoftmax z k) (funext fun k => ?_)
    rw [arrQ_at]
    refine congrArg (· + (m ((c : Thread nD τ).loc main_arg5) : Vec Ideal S4 .f32) (ix1 k)) (Finset.sum_congr rfl fun d _ => ?_)
    rw [arrP_at, blk0_at]
    rfl

/-- The contexts' codes. -/
theorem final9 (k : Fin 4) (n : Fin 4096) (j : Fin 1280) : ((dats m 0 c).arrAt 9 cfg0.N : Vec Ideal S4x4096x1280 .fp8e4m3) (ix3 k n j) = qcode kinv (ctxv m c n k) j := by
  have h := congrFun ((blocks9 m c (pt n) (flush9 _)).trans (flushed9 m c (pt n))) (ix3 k (lane n) j)
  refine Eq.trans (congrArg ((dats m 0 c).arrAt 9 cfg0.N : Vec Ideal S4x4096x1280 .fp8e4m3) (funext fun a => Fin.ext ?_)) (h.trans ?_)
  · match a with
    | ⟨0, _⟩ => show k.val = 0 * 4 + 1 * k.val; omega
    | ⟨1, _⟩ => exact (place n).symm
    | ⟨2, _⟩ => show j.val = 0 * 1280 + 1 * j.val; omega
  · refine (out9_at _ _ _ _ _ _ k (lane n) j).trans ?_
    rw [zrow_blk]

/-- The contexts' scales. -/
theorem final10 (n : Fin 4096) (k : Fin 4) : ((dats m 0 c).arrAt 10 cfg0.N : Vec Ideal S4096x4 .f32) (ix2 n k) = kscale (amax (ctxv m c n k)) := by
  have h := congrFun ((blocks10 m c (pt n) (flush10 _)).trans (flushed10 m c (pt n))) (ix2 (lane n) k)
  refine Eq.trans (congrArg ((dats m 0 c).arrAt 10 cfg0.N : Vec Ideal S4096x4 .f32) (funext fun a => Fin.ext ?_)) (h.trans ?_)
  · match a with
    | ⟨0, _⟩ => exact (place n).symm
    | ⟨1, _⟩ => show k.val = 0 * 4 + 1 * k.val; omega
  · refine (out10_at _ _ _ _ _ _ k (lane n)).trans ?_
    rw [zrow_blk]

end Cert.CtxKernelIdeal.Hand

end

end
-- ==== Proof.CtxR.lean ====
/- The value of the formula of the `ctx` call: what its body leaves, row by row. -/
module

public import proofs.«01_k».proof.Proof.Gen.CtxReferenceIdeal.Frame
public import Idealize.ShloMosaic.Lib.Pipeline.Value
public import proofs.«01_k».proof.Proof.CtxKValue

@[expose] public section

set_option maxRecDepth 16384

noncomputable section

open scoped BigOperators
open Idealize.ShloMosaic Idealize.ShloMosaic.TcCoe Idealize.SL.Sem

namespace Cert.Ctx

/-- The scale of a row as the formula makes it, -/
def rscale (a : EReal) : EReal := Ideal.exp2 (rexp a)
/-- and the inverse of the scale. -/
def rinv (a : EReal) : EReal := Ideal.exp2 (0 - rexp a)

end Cert.Ctx

namespace Cert.CtxReferenceIdeal.Hand

open Cert.CtxReferenceIdeal Cert.CtxReferenceIdeal.Gen Cert.CtxReferenceIdeal.Facts Cert.Ctx
open Cert.LossKernelIdeal.Hand (zero2)

/-! ## The quantiser -/

/-- The exponents of a column of largest absolute values. -/
def vexp (a : FVec Ideal S4096x1 .f32) : FVec Ideal S4096x1 .f32 :=
  select (cmpf .oeq a (broadcast S4096x1 (Scalar.ofBits .f32 0x00000000#32))) (broadcast S4096x1 (Scalar.ofBits .f32 0x00000000#32))
    (addf (maximumf (floor (divf (log (mulf a (broadcast S4096x1 (Scalar.ofBits .f32 0x3B124925#32)))) (log (broadcast S4096x1 (Scalar.ofBits .f32 0x40000000#32)))))
      (broadcast S4096x1 (Scalar.ofBits .f32 0xC2FE0000#32))) (broadcast S4096x1 (Scalar.ofBits .f32 0x3F800000#32)))

/-- The exponent of a row. -/
theorem vexp_at (a : FVec Ideal S4096x1 .f32) (i : S4096x1.Idx) : vexp a i = rexp (a i) := by
  unfold vexp rexp
  simp only [pointwise]

/-- The largest absolute value of every row of a context. -/
def vmax (z : FVec Ideal S4096x1280 .f32) : FVec Ideal S4096x1 .f32 :=
  shapeCast S4096x1 (multiReduction .maximumf [1] S4096 (absf z) 0xFF800000#32 reduces_S4096x1280_S4096 (.inl rfl) rfl) shapeCasts_S4096_S4096x1
/-- The largest absolute value of every token's row. -/
def xmax (x : Vec Ideal S4096x1024 .bf16) : FVec Ideal S4096x1 .f32 :=
  shapeCast S4096x1 (multiReduction .maximumf [1] S4096 (absf (k0_pay1 x)) 0xFF800000#32 reduces_S4096x1024_S4096 (.inl rfl) rfl) shapeCasts_S4096_S4096x1

/-- The largest absolute value of a row of a context, -/
theorem vmax_at (z : FVec Ideal S4096x1280 .f32) (r : Fin 4096) : vmax z (ix2 r 0) = amax fun j => z (ix2 r j) := by
  unfold vmax amax
  simp only [pointwise]
  simp only [Cert.Loss.ofBits_negInf, Cert.Loss.fold_max_eq_sup]
  rfl

/-- and of a token's row. -/
theorem xmax_at (x : Vec Ideal S4096x1024 .bf16) (r : Fin 4096) : xmax x (ix2 r 0) = amax fun d => x (ix2 r d) := by
  unfold xmax k0_pay1 amax
  simp only [pointwise]
  simp only [Cert.Loss.ofBits_negInf, Cert.Loss.fold_max_eq_sup]
  rfl

theorem exp_x (x : Vec Ideal S4096x1024 .bf16) : k0_pay2 x = vexp (xmax x) := rfl
theorem exp_z (z : FVec Ideal S4096x1280 .f32) : k0_pay24 (absf z) = vexp (vmax z) := rfl

/-- The codes of a context, -/
def vcodes (z : FVec Ideal S4096x1280 .f32) : FVec Ideal S1x4096x1280 .fp8e4m3 := k0_pay26 z (absf z)
/-- and its scales. -/
def vscale (z : FVec Ideal S4096x1280 .f32) : FVec Ideal S4096x1 .f32 := k0_pay25 (absf z)

/-- A power of two at a row. -/
theorem exp2_at (a : FVec Ideal S4096x1 .f32) (i : S4096x1.Idx) : exp2 a i = Ideal.exp2 (a i) := rfl

theorem vscale_eq (z : FVec Ideal S4096x1280 .f32) : vscale z = exp2 (vexp (vmax z)) := rfl
theorem xscale_eq (x : Vec Ideal S4096x1024 .bf16) : k0_pay4 x = exp2 (vexp (xmax x)) := rfl

/-- The scale of a row of a context, -/
theorem scale_at (z : FVec Ideal S4096x1280 .f32) (r : Fin 4096) : vscale z (ix2 r 0) = rscale (amax fun j => z (ix2 r j)) := by
  rw [vscale_eq, exp2_at, vexp_at, vmax_at, rscale]

/-- of a token's row, -/
theorem xscale_at (x : Vec Ideal S4096x1024 .bf16) (r : Fin 4096) : k0_pay4 x (ix2 r 0) = rscale (amax fun d => x (ix2 r d)) := by
  rw [xscale_eq, exp2_at, vexp_at, xmax_at, rscale]

/-- The inverses of the scales, of the exponents. -/
def vinv (e : FVec Ideal S4096x1 .f32) : FVec Ideal S4096x1 .f32 := exp2 (subf (broadcast S4096x1 (Scalar.ofBits .f32 0x00000000#32)) e)
/-- A context scaled and clipped, -/
def vclip (z : FVec Ideal S4096x1280 .f32) (c : FVec Ideal S4096x1 .f32) : FVec Ideal S1x4096x1280 .fp8e4m3 :=
  shapeCast S1x4096x1280 (truncf .fp8e4m3 (minimumf (broadcast S4096x1280 (Scalar.ofBits .f32 0x43E00000#32)) (maximumf (broadcast S4096x1280 (Scalar.ofBits .f32 0xC3E00000#32))
    (mulf z (broadcastTo S4096x1280 c broadcasts_S4096x1_S4096x1280)))) bitsLt_fp8e4m3_f32) shapeCasts_S4096x1280_S1x4096x1280
/-- and the tokens' rows. -/
def xclip (x : Vec Ideal S4096x1024 .bf16) (c : FVec Ideal S4096x1 .f32) : FVec Ideal S4096x1024 .fp8e4m3 :=
  truncf .fp8e4m3 (minimumf (broadcast S4096x1024 (Scalar.ofBits .f32 0x43E00000#32)) (maximumf (broadcast S4096x1024 (Scalar.ofBits .f32 0xC3E00000#32))
    (mulf (k0_pay1 x) (broadcastTo S4096x1024 c broadcasts_S4096x1_S4096x1024)))) bitsLt_fp8e4m3_f32

theorem vcodes_eq (z : FVec Ideal S4096x1280 .f32) : vcodes z = vclip z (vinv (vexp (vmax z))) := rfl
theorem xcodes_eq (x : Vec Ideal S4096x1024 .bf16) : k0_pay3 x = xclip x (vinv (vexp (xmax x))) := rfl

theorem vinv_at (e : FVec Ideal S4096x1 .f32) (i : S4096x1.Idx) : vinv e i = Ideal.exp2 (0 - e i) := by
  unfold vinv
  simp only [pointwise]
  rfl

theorem vclip_at (z : FVec Ideal S4096x1280 .f32) (c : FVec Ideal S4096x1 .f32) (r : Fin 4096) (j : Fin 1280) :
    vclip z c (ix3 0 r j) = clip (z (ix2 r j) * c (ix2 r 0)) := by
  unfold vclip clip
  simp only [pointwise]
  rfl

theorem xclip_at (x : Vec Ideal S4096x1024 .bf16) (c : FVec Ideal S4096x1 .f32) (r : Fin 4096) (d : Fin 1024) :
    xclip x c (ix2 r d) = clip (x (ix2 r d) * c (ix2 r 0)) := by
  unfold xclip clip k0_pay1
  simp only [pointwise]
  rfl

/-- the code of a context at a row and a coordinate, -/
theorem codes_at (z : FVec Ideal S4096x1280 .f32) (r : Fin 4096) (j : Fin 1280) : vcodes z (ix3 0 r j) = qcode rinv (fun j => z (ix2 r j)) j := by
  rw [vcodes_eq, vclip_at, vinv_at, vexp_at, vmax_at, qcode, rinv]

/-- and of a token. -/
theorem xcodes_at (x : Vec Ideal S4096x1024 .bf16) (r : Fin 4096) (d : Fin 1024) : k0_pay3 x (ix2 r d) = qcode rinv (fun d => x (ix2 r d)) d := by
  rw [xcodes_eq, xclip_at, vinv_at, vexp_at, xmax_at, qcode, rinv]

/-! ## The contexts -/

section
variable (xc : FVec Ideal S4096x1024 .fp8e4m3) (xs : FVec Ideal S4096x1 .f32) (w : Vec Ideal S1x1024x1280 .fp8e4m3) (s b : Vec Ideal S1x1280 .f32)

/-- The four contexts' stored pieces are one function of their context: the first's -/
theorem scale0 : k0_pay13 (k0_pay9 xc xs w s b) (k0_pay10 xc xs w s b) (k0_pay11 (F := Ideal)) = vscale (k0_pay22 xc xs w s b) := rfl
theorem codes0 : k0_pay14 (k0_pay7 xc xs w s b) (k0_pay9 xc xs w s b) (k0_pay10 xc xs w s b) (k0_pay11 (F := Ideal)) = vcodes (k0_pay22 xc xs w s b) := rfl
/-- the second's, -/
theorem scale1 : k0_pay20 (k0_pay16 xc xs w s b) (k0_pay17 xc xs w s b) (k0_pay18 (F := Ideal)) = vscale (k0_pay22 xc xs w s b) := rfl
theorem codes1 : k0_pay21 (k0_pay15 xc xs w s b) (k0_pay16 xc xs w s b) (k0_pay17 xc xs w s b) (k0_pay18 (F := Ideal)) = vcodes (k0_pay22 xc xs w s b) := rfl
/-- the third's, -/
theorem scale2 : k0_pay25 (k0_pay23 xc xs w s b) = vscale (k0_pay22 xc xs w s b) := rfl
theorem codes2 : k0_pay26 (k0_pay22 xc xs w s b) (k0_pay23 xc xs w s b) = vcodes (k0_pay22 xc xs w s b) := rfl
/-- and the fourth's. -/
theorem scale3 : k0_pay30 (k0_pay27 xc xs w) s b = vscale (k0_pay22 xc xs w s b) := rfl
theorem codes3 : k0_pay31 (k0_pay27 xc xs w) s b = vcodes (k0_pay22 xc xs w s b) := rfl

/-- A context at a row and a coordinate. -/
theorem ctx_at (r : Fin 4096) (j : Fin 1280) : k0_pay22 xc xs w s b (ix2 r j)
    = ctxRow (fun d => xc (ix2 r d)) (xs (ix2 r 0)) (fun d j => w (ix3 0 d j)) (fun j => s (ix2 0 j)) (fun j => b (ix2 0 j)) j := by
  unfold k0_pay22 ctxRow
  simp only [pointwise]
  rw [zero_add]
  rfl

end

/-! ## The mixture -/

/-- The logits of the mixture, -/
def vlogits (v : FVec Ideal S4096x4 .f32) (bp : Vec Ideal S1x4 .f32) : FVec Ideal S4096x4 .f32 :=
  addf v (broadcastTo S4096x4 (shapeCast S1x4 bp shapeCasts_S1x4_S1x4) broadcasts_S1x4_S4096x4)
/-- and the logarithms of its weights. -/
def vlogSoftmax (z : FVec Ideal S4096x4 .f32) : FVec Ideal S4096x4 .f32 :=
  let y : FVec Ideal S4096x4 .f32 := subf z (broadcastTo S4096x4 (shapeCast S4096x1 (multiReduction .maximumf [1] S4096 z 0xFF800000#32 reduces_S4096x4_S4096 (.inl rfl) rfl) shapeCasts_S4096_S4096x1) broadcasts_S4096x1_S4096x4)
  subf y (broadcastTo S4096x4 (log (shapeCast S4096x1 (multiReduction .add [1] S4096 (exp y) 0x00000000#32 reduces_S4096x4_S4096 (.inl rfl) rfl) shapeCasts_S4096_S4096x1)) broadcasts_S4096x1_S4096x4)

theorem pay6_eq (v : FVec Ideal S4096x4 .f32) (bp : Vec Ideal S1x4 .f32) : k0_pay6 v bp = vlogSoftmax (vlogits v bp) := rfl

theorem logits_at (x : Vec Ideal S4096x1024 .bf16) (wp : Vec Ideal S1024x4 .f32) (bp : Vec Ideal S1x4 .f32) (r : Fin 4096) (k : Fin 4) :
    vlogits (k0_pay5 x wp) bp (ix2 r k) = (∑ d, x (ix2 r d) * wp (ix2 d k)) + bp (ix2 0 k) := by
  unfold vlogits k0_pay5 k0_pay1
  simp only [pointwise]
  rw [zero_add]
  rfl

theorem logSoftmax_at (z : FVec Ideal S4096x4 .f32) (r : Fin 4096) (k : Fin 4) :
    vlogSoftmax z (ix2 r k) = logSoftmax (fun k => z (ix2 r k)) k := by
  unfold vlogSoftmax logSoftmax
  simp only [pointwise, Ideal.reduceAdd_def]
  simp only [Cert.Loss.ofBits_negInf, Cert.Loss.fold_max_eq_sup]
  rfl

end Cert.CtxReferenceIdeal.Hand

end

end
-- ==== Proof.CtxRValue.lean ====
/- The value of the formula of the `ctx` call: what its body leaves, at an index. -/
module

public import proofs.«01_k».proof.Proof.CtxR

@[expose] public section

set_option maxRecDepth 16384

noncomputable section

open scoped BigOperators
open Idealize.ShloMosaic Idealize.ShloMosaic.TcCoe Idealize.SL.Sem

namespace Cert.CtxReferenceIdeal.Hand

open Cert.CtxReferenceIdeal Cert.CtxReferenceIdeal.Gen Cert.CtxReferenceIdeal.Facts Cert.Ctx
open Cert.LossKernelIdeal.Hand (zero2)

/-! ## What the body leaves -/

section
variable (x0 : Vec Ideal S4096x1024 .bf16) (x1 : Vec Ideal S4x1024x1280 .fp8e4m3) (x2 : Vec Ideal S4x1280 .f32) (x3 : Vec Ideal S4x1280 .f32)
  (x4 : Vec Ideal S1024x4 .f32) (x5 : Vec Ideal S1x4 .f32)

/-- The context of a token, before its quantisation. -/
def zrow (k : Fin 4) (r : Fin 4096) (j : Fin 1280) : EReal :=
  qctx rinv rscale (fun d => x0 (ix2 r d)) (fun d j => x1 (ix3 k d j)) (fun j => x2 (ix2 k j)) (fun j => x3 (ix2 k j)) j

/-- The contexts, of loaded weights. -/
def vctx (w : Vec Ideal S1x1024x1280 .fp8e4m3) (s b : Vec Ideal S1x1280 .f32) : FVec Ideal S4096x1280 .f32 :=
  k0_pay22 (k0_pay3 x0) (k0_pay4 x0) w s b

theorem vctx_at (w : Vec Ideal S1x1024x1280 .fp8e4m3) (s b : Vec Ideal S1x1280 .f32) (k : Fin 4)
    (hw : ∀ d j, w (ix3 0 d j) = x1 (ix3 k d j)) (hs : ∀ j, s (ix2 0 j) = x2 (ix2 k j)) (hb : ∀ j, b (ix2 0 j) = x3 (ix2 k j)) (r : Fin 4096) (j : Fin 1280) :
    vctx x0 w s b (ix2 r j) = zrow x0 x1 x2 x3 k r j := by
  unfold vctx zrow qctx
  rw [ctx_at]
  simp only [xcodes_at, xscale_at, hw, hs, hb]

/-- The codes the body stores for a context, at a row and a coordinate, -/
theorem codes_k (o : ℕ) (ho : o < 4) (h1) (h2) (r : Fin 4096) (j : Fin 1280) :
    vcodes (vctx x0 (View.ld x1 (Rect.unit (s := S4x1024x1280) ![o, 0, 0] S1x1024x1280.size h1)) (View.ld x2 (Rect.unit (s := S4x1280) ![o, 0] S1x1280.size h2))
      (View.ld x3 (Rect.unit (s := S4x1280) ![o, 0] S1x1280.size h2))) (ix3 0 r j) = qcode rinv (zrow x0 x1 x2 x3 ⟨o, ho⟩ r) j := by
  rw [codes_at]
  simp only [vctx_at x0 x1 x2 x3 _ _ _ ⟨o, ho⟩ (ld_stack x1 o ho h1) (ld_row x2 o ho h2) (ld_row x3 o ho h2)]

/-- and the scales. -/
theorem scale_k (o : ℕ) (ho : o < 4) (h1) (h2) (r : Fin 4096) :
    vscale (vctx x0 (View.ld x1 (Rect.unit (s := S4x1024x1280) ![o, 0, 0] S1x1024x1280.size h1)) (View.ld x2 (Rect.unit (s := S4x1280) ![o, 0] S1x1280.size h2))
      (View.ld x3 (Rect.unit (s := S4x1280) ![o, 0] S1x1280.size h2))) (ix2 r 0) = rscale (amax (zrow x0 x1 x2 x3 ⟨o, ho⟩ r)) := by
  rw [scale_at]
  simp only [vctx_at x0 x1 x2 x3 _ _ _ ⟨o, ho⟩ (ld_stack x1 o ho h1) (ld_row x2 o ho h2) (ld_row x3 o ho h2)]

/-- The four stores of codes are one function of their context, -/
theorem left9 : out0_9 x0 x1 x2 x3 x4 x5 = View.canon (Val := Elt Ideal)
    [⟨r0_19, vcodes (vctx x0 (View.ld x1 r0_17) (View.ld x2 r0_18) (View.ld x3 r0_18))⟩, ⟨r0_15, vcodes (vctx x0 (View.ld x1 r0_13) (View.ld x2 r0_14) (View.ld x3 r0_14))⟩,
      ⟨r0_11, vcodes (vctx x0 (View.ld x1 r0_9) (View.ld x2 r0_10) (View.ld x3 r0_10))⟩, ⟨r0_7, vcodes (vctx x0 (View.ld x1 r0_5) (View.ld x2 r0_6) (View.ld x3 r0_6))⟩] := by
  have hx : View.ld (Val := Elt Ideal) x0 r0_0 = x0 := View.ld_unit_zero zero2 _ _
  unfold_out out0_9
  rw [codes3, codes2, codes1, codes0, hx]
  unfold vctx
  rfl

/-- and so are the four stores of scales. -/
theorem left10 : out0_10 x0 x1 x2 x3 x4 x5 = View.canon (Val := Elt Ideal) (e := .f32)
    [⟨r0_20, vscale (vctx x0 (View.ld x1 r0_17) (View.ld x2 r0_18) (View.ld x3 r0_18))⟩, ⟨r0_16, vscale (vctx x0 (View.ld x1 r0_13) (View.ld x2 r0_14) (View.ld x3 r0_14))⟩,
      ⟨r0_12, vscale (vctx x0 (View.ld x1 r0_9) (View.ld x2 r0_10) (View.ld x3 r0_10))⟩, ⟨r0_8, vscale (vctx x0 (View.ld x1 r0_5) (View.ld x2 r0_6) (View.ld x3 r0_6))⟩] := by
  have hx : View.ld (Val := Elt Ideal) x0 r0_0 = x0 := View.ld_unit_zero zero2 _ _
  unfold_out out0_10
  rw [scale3, scale2, scale1, scale0, hx]
  unfold vctx
  rfl

/-- The codes of the contexts that the body leaves -/
theorem out9_at (k : Fin 4) (r : Fin 4096) (j : Fin 1280) : out0_9 x0 x1 x2 x3 x4 x5 (ix3 k r j) = qcode rinv (zrow x0 x1 x2 x3 k r) j := by
  rw [left9]
  refine View.canon_apply_of_pieces (Val := Elt Ideal) (fun y : S4x4096x1280.Idx => qcode rinv (zrow x0 x1 x2 x3 (y 0) (y 1)) (y 2)) _ ?_ (ix3 k r j) (cover0_9 _ _ _ _ _)
  rw [List.forall_mem_cons, List.forall_mem_cons, List.forall_mem_cons, List.forall_mem_cons]
  exact ⟨piece_stack (e := .fp8e4m3) (fun k r j => qcode rinv (zrow x0 x1 x2 x3 k r) j) 3 (by norm_num) _ (codes_k x0 x1 x2 x3 3 (by norm_num) _ _) inb_S4x4096x1280_S1x4096x1280_3_0_0,
    piece_stack (e := .fp8e4m3) (fun k r j => qcode rinv (zrow x0 x1 x2 x3 k r) j) 2 (by norm_num) _ (codes_k x0 x1 x2 x3 2 (by norm_num) _ _) inb_S4x4096x1280_S1x4096x1280_2_0_0,
    piece_stack (e := .fp8e4m3) (fun k r j => qcode rinv (zrow x0 x1 x2 x3 k r) j) 1 (by norm_num) _ (codes_k x0 x1 x2 x3 1 (by norm_num) _ _) inb_S4x4096x1280_S1x4096x1280_1_0_0,
    piece_stack (e := .fp8e4m3) (fun k r j => qcode rinv (zrow x0 x1 x2 x3 k r) j) 0 (by norm_num) _ (codes_k x0 x1 x2 x3 0 (by norm_num) _ _) inb_S4x4096x1280_S1x4096x1280_0_0_0,
    List.forall_mem_nil _⟩

/-- and their scales. -/
theorem out10_at (k : Fin 4) (r : Fin 4096) : out0_10 x0 x1 x2 x3 x4 x5 (ix2 r k) = rscale (amax (zrow x0 x1 x2 x3 k r)) := by
  rw [left10]
  refine View.canon_apply_of_pieces (Val := Elt Ideal) (fun y : S4096x4.Idx => rscale (amax (zrow x0 x1 x2 x3 (y 1) (y 0)))) _ ?_ (ix2 r k) (cover0_10 _ _ _ _ _)
  rw [List.forall_mem_cons, List.forall_mem_cons, List.forall_mem_cons, List.forall_mem_cons]
  exact ⟨piece_col (e := .f32) (fun r k => rscale (amax (zrow x0 x1 x2 x3 k r))) 3 (by norm_num) _ (scale_k x0 x1 x2 x3 3 (by norm_num) _ _) inb_S4096x4_S4096x1_0_3,
    piece_col (e := .f32) (fun r k => rscale (amax (zrow x0 x1 x2 x3 k r))) 2 (by norm_num) _ (scale_k x0 x1 x2 x3 2 (by norm_num) _ _) inb_S4096x4_S4096x1_0_2,
    piece_col (e := .f32) (fun r k => rscale (amax (zrow x0 x1 x2 x3 k r))) 1 (by norm_num) _ (scale_k x0 x1 x2 x3 1 (by norm_num) _ _) inb_S4096x4_S4096x1_0_1,
    piece_col (e := .f32) (fun r k => rscale (amax (zrow x0 x1 x2 x3 k r))) 0 (by norm_num) _ (scale_k x0 x1 x2 x3 0 (by norm_num) _ _) inb_S4096x4_S4096x1_0_0,
    List.forall_mem_nil _⟩

/-- The tokens' codes -/
theorem out6_at (r : Fin 4096) (d : Fin 1024) : out0_6 x0 x1 x2 x3 x4 x5 (ix2 r d) = qcode rinv (fun d => x0 (ix2 r d)) d := by
  unfold_out out0_6
  rw [View.canon_unit_zero zero2, View.ld_unit_zero zero2]
  exact xcodes_at x0 r d

/-- and scales. -/
theorem out7_at (r : Fin 4096) : out0_7 x0 x1 x2 x3 x4 x5 (ix2 r 0) = rscale (amax fun d => x0 (ix2 r d)) := by
  unfold_out out0_7
  rw [View.canon_unit_zero zero2, View.ld_unit_zero zero2]
  exact xscale_at x0 r

/-- The logarithms of the weights of the mixture. -/
theorem out8_at (r : Fin 4096) (k : Fin 4) : out0_8 x0 x1 x2 x3 x4 x5 (ix2 r k)
    = logSoftmax (fun k => (∑ d, x0 (ix2 r d) * x4 (ix2 d k)) + x5 (ix2 0 k)) k := by
  unfold_out out0_8
  rw [View.canon_unit_zero zero2, View.ld_unit_zero zero2, View.ld_unit_zero zero2, View.ld_unit_zero zero2, pay6_eq, logSoftmax_at]
  simp only [logits_at]

end

end Cert.CtxReferenceIdeal.Hand

end

end
-- ==== Proof.CtxRRun.lean ====
/- The value of the formula of the `ctx` call: its five arrays after the run. -/
module

public import proofs.«01_k».proof.Proof.CtxRValue

@[expose] public section

set_option maxRecDepth 16384

noncomputable section

open scoped BigOperators
open Idealize.ShloMosaic Idealize.ShloMosaic.TcCoe Idealize.SL.Sem

namespace Cert.CtxReferenceIdeal.Hand

open Cert.CtxReferenceIdeal Cert.CtxReferenceIdeal.Gen Cert.CtxReferenceIdeal.Facts Cert.Ctx
open Cert.LossKernelIdeal.Hand (zero2)

/-! ## The arrays after the run -/

variable (m : (ℓ : Loc nD τ sig) → Buf (Elt Ideal) ℓ) (c : Dev nD)

/-- The tokens' rows as the region finds them, -/
def arrX : Vec Ideal S4096x1024 .bf16 := V m c main_v0
/-- the contexts' weights, -/
def arrW : Vec Ideal S4x1024x1280 .fp8e4m3 := V m c main_v1
/-- scales -/
def arrS : Vec Ideal S4x1280 .f32 := V m c main_arg2
/-- and biases, -/
def arrB : Vec Ideal S4x1280 .f32 := V m c main_arg3
/-- and the mixture's weights -/
def arrP : Vec Ideal S1024x4 .f32 := V m c main_arg4
/-- and biases. -/
def arrQ : Vec Ideal S1x4 .f32 := V m c main_v2

/-- The tokens' rows are the first argument's. -/
theorem arrX_eq : arrX m c = shapeCast S4096x1024 (m ((c : Thread nD τ).loc main_arg0)) Gen.shapeCasts_S2x2048x1024_S4096x1024 := by
  show StableHlo.after hostOps0 _ (Proc.devRef .tc main_v0) = _
  after_results
  all_goals rfl

/-- The weights are the second argument's, a matrix for every context. -/
theorem arrW_eq : arrW m c = transpose S4x1024x1280 [1, 0, 2] (m ((c : Thread nD τ).loc main_arg1)) Gen.transposes_S1024x4x1280_S4x1024x1280_1_0_2 := by
  show StableHlo.after hostOps0 _ (Proc.devRef .tc main_v1) = _
  after_results
  all_goals rfl

/-- The mixture's biases are the sixth argument's. -/
theorem arrQ_eq : arrQ m c = shapeCast S1x4 (m ((c : Thread nD τ).loc main_arg5) : Vec Ideal S4 .f32) Gen.shapeCasts_S4_S1x4 := by
  show StableHlo.after hostOps0 _ (Proc.devRef .tc main_v2) = _
  after_results
  all_goals rfl

theorem row_at (y : FVec Ideal S4 .f32) (k : Fin 4) : shapeCast S1x4 y Gen.shapeCasts_S4_S1x4 (ix2 0 k) = y (ix1 k) := by
  simp only [pointwise]

theorem arrQ_at (k : Fin 4) : arrQ m c (ix2 0 k) = (m ((c : Thread nD τ).loc main_arg5) : Vec Ideal S4 .f32) (ix1 k) := by
  rw [arrQ_eq]
  exact row_at _ k

theorem blk0 (t : Fin cfg0.N) : (iblk m c 0 t : Vec Ideal S4096x1024 .bf16) = arrX m c := funext fun y => by
  refine congrArg (arrX m c) (funext fun a => Fin.ext ?_)
  match a with
  | ⟨0, _⟩ => show 0 * 4096 + 1 * (y 0).val = (y 0).val; omega
  | ⟨1, _⟩ => show 0 * 1024 + 1 * (y 1).val = (y 1).val; omega
theorem blk1 (t : Fin cfg0.N) : (iblk m c 1 t : Vec Ideal S4x1024x1280 .fp8e4m3) = arrW m c := funext fun y => by
  refine congrArg (arrW m c) (funext fun a => Fin.ext ?_)
  match a with
  | ⟨0, _⟩ => show 0 * 4 + 1 * (y 0).val = (y 0).val; omega
  | ⟨1, _⟩ => show 0 * 1024 + 1 * (y 1).val = (y 1).val; omega
  | ⟨2, _⟩ => show 0 * 1280 + 1 * (y 2).val = (y 2).val; omega
theorem blk2 (t : Fin cfg0.N) : (iblk m c 2 t : Vec Ideal S4x1280 .f32) = arrS m c := funext fun y => by
  refine congrArg (arrS m c) (funext fun a => Fin.ext ?_)
  match a with
  | ⟨0, _⟩ => show 0 * 4 + 1 * (y 0).val = (y 0).val; omega
  | ⟨1, _⟩ => show 0 * 1280 + 1 * (y 1).val = (y 1).val; omega
theorem blk3 (t : Fin cfg0.N) : (iblk m c 3 t : Vec Ideal S4x1280 .f32) = arrB m c := funext fun y => by
  refine congrArg (arrB m c) (funext fun a => Fin.ext ?_)
  match a with
  | ⟨0, _⟩ => show 0 * 4 + 1 * (y 0).val = (y 0).val; omega
  | ⟨1, _⟩ => show 0 * 1280 + 1 * (y 1).val = (y 1).val; omega
theorem blk4 (t : Fin cfg0.N) : (iblk m c 4 t : Vec Ideal S1024x4 .f32) = arrP m c := funext fun y => by
  refine congrArg (arrP m c) (funext fun a => Fin.ext ?_)
  match a with
  | ⟨0, _⟩ => show 0 * 1024 + 1 * (y 0).val = (y 0).val; omega
  | ⟨1, _⟩ => show 0 * 4 + 1 * (y 1).val = (y 1).val; omega
theorem blk5 (t : Fin cfg0.N) : (iblk m c 5 t : Vec Ideal S1x4 .f32) = arrQ m c := funext fun y => by
  refine congrArg (arrQ m c) (funext fun a => Fin.ext ?_)
  match a with
  | ⟨0, _⟩ => show 0 * 1 + 1 * (y 0).val = (y 0).val; omega
  | ⟨1, _⟩ => show 0 * 4 + 1 * (y 1).val = (y 1).val; omega

/-- The arrays after the run are the body's: the tokens' codes, -/
theorem arr6 : ((dats m 0 c).arrAt 6 cfg0.N : Vec Ideal S4096x1024 .fp8e4m3) = out0_6 (arrX m c) (arrW m c) (arrS m c) (arrB m c) (arrP m c) (arrQ m c) := funext fun i => by
  refine ((dats m 0 c).arrAt_emb_eq_after_last 6 ⟨0, by decide⟩ (by decide +kernel) i).trans ?_
  rw [after0_6, blk0, blk1, blk2, blk3, blk4, blk5]
  exact (cast_eq _ _).trans (congrArg (out0_6 (arrX m c) (arrW m c) (arrS m c) (arrB m c) (arrP m c) (arrQ m c)) (funext fun a => Fin.ext rfl))
/-- their scales, -/
theorem arr7 : ((dats m 0 c).arrAt 7 cfg0.N : Vec Ideal S4096x1 .f32) = out0_7 (arrX m c) (arrW m c) (arrS m c) (arrB m c) (arrP m c) (arrQ m c) := funext fun i => by
  refine ((dats m 0 c).arrAt_emb_eq_after_last 7 ⟨0, by decide⟩ (by decide +kernel) i).trans ?_
  rw [after0_7, blk0, blk1, blk2, blk3, blk4, blk5]
  exact (cast_eq _ _).trans (congrArg (out0_7 (arrX m c) (arrW m c) (arrS m c) (arrB m c) (arrP m c) (arrQ m c)) (funext fun a => Fin.ext rfl))
/-- the logarithms of the mixture's weights, -/
theorem arr8 : ((dats m 0 c).arrAt 8 cfg0.N : Vec Ideal S4096x4 .f32) = out0_8 (arrX m c) (arrW m c) (arrS m c) (arrB m c) (arrP m c) (arrQ m c) := funext fun i => by
  refine ((dats m 0 c).arrAt_emb_eq_after_last 8 ⟨0, by decide⟩ (by decide +kernel) i).trans ?_
  rw [after0_8, blk0, blk1, blk2, blk3, blk4, blk5]
  exact (cast_eq _ _).trans (congrArg (out0_8 (arrX m c) (arrW m c) (arrS m c) (arrB m c) (arrP m c) (arrQ m c)) (funext fun a => Fin.ext rfl))
/-- the contexts' codes -/
theorem arr9 : ((dats m 0 c).arrAt 9 cfg0.N : Vec Ideal S4x4096x1280 .fp8e4m3) = out0_9 (arrX m c) (arrW m c) (arrS m c) (arrB m c) (arrP m c) (arrQ m c) := funext fun i => by
  refine ((dats m 0 c).arrAt_emb_eq_after_last 9 ⟨0, by decide⟩ (by decide +kernel) i).trans ?_
  rw [after0_9, blk0, blk1, blk2, blk3, blk4, blk5]
  exact (cast_eq _ _).trans (congrArg (out0_9 (arrX m c) (arrW m c) (arrS m c) (arrB m c) (arrP m c) (arrQ m c)) (funext fun a => Fin.ext rfl))
/-- and their scales. -/
theorem arr10 : ((dats m 0 c).arrAt 10 cfg0.N : Vec Ideal S4096x4 .f32) = out0_10 (arrX m c) (arrW m c) (arrS m c) (arrB m c) (arrP m c) (arrQ m c) := funext fun i => by
  refine ((dats m 0 c).arrAt_emb_eq_after_last 10 ⟨0, by decide⟩ (by decide +kernel) i).trans ?_
  rw [after0_10, blk0, blk1, blk2, blk3, blk4, blk5]
  exact (cast_eq _ _).trans (congrArg (out0_10 (arrX m c) (arrW m c) (arrS m c) (arrB m c) (arrP m c) (arrQ m c)) (funext fun a => Fin.ext rfl))

/-- A token's row. -/
def xrow (n : Fin 4096) (d : Fin 1024) : EReal := arrX m c (ix2 n d)
/-- A token's context before its quantisation. -/
def ctxv (n : Fin 4096) (k : Fin 4) (j : Fin 1280) : EReal :=
  qctx rinv rscale (xrow m c n) (fun d j => arrW m c (ix3 k d j)) (fun j => arrS m c (ix2 k j)) (fun j => arrB m c (ix2 k j)) j

/-- The tokens' codes, -/
theorem final6 (n : Fin 4096) (d : Fin 1024) : ((dats m 0 c).arrAt 6 cfg0.N : Vec Ideal S4096x1024 .fp8e4m3) (ix2 n d) = qcode rinv (xrow m c n) d :=
  (congrFun (arr6 m c) _).trans (out6_at _ _ _ _ _ _ n d)
/-- the tokens' scales, -/
theorem final7 (n : Fin 4096) : ((dats m 0 c).arrAt 7 cfg0.N : Vec Ideal S4096x1 .f32) (ix2 n 0) = rscale (amax (xrow m c n)) :=
  (congrFun (arr7 m c) _).trans (out7_at _ _ _ _ _ _ n)
/-- the logarithms of the mixture's weights, -/
theorem final8 (n : Fin 4096) (k : Fin 4) : ((dats m 0 c).arrAt 8 cfg0.N : Vec Ideal S4096x4 .f32) (ix2 n k)
    = logSoftmax (fun k => (∑ d, xrow m c n d * arrP m c (ix2 d k)) + (m ((c : Thread nD τ).loc main_arg5) : Vec Ideal S4 .f32) (ix1 k)) k := by
  refine (congrFun (arr8 m c) _).trans ((out8_at _ _ _ _ _ _ n k).trans ?_)
  simp only [arrQ_at]
  rfl
/-- the contexts' codes, -/
theorem final9 (k : Fin 4) (n : Fin 4096) (j : Fin 1280) : ((dats m 0 c).arrAt 9 cfg0.N : Vec Ideal S4x4096x1280 .fp8e4m3) (ix3 k n j) = qcode rinv (ctxv m c n k) j :=
  (congrFun (arr9 m c) _).trans (out9_at _ _ _ _ _ _ k n j)
/-- and the contexts' scales. -/
theorem final10 (n : Fin 4096) (k : Fin 4) : ((dats m 0 c).arrAt 10 cfg0.N : Vec Ideal S4096x4 .f32) (ix2 n k) = rscale (amax (ctxv m c n k)) :=
  (congrFun (arr10 m c) _).trans (out10_at _ _ _ _ _ _ k n)

/-- The run: the five results are the region's arrays, and the arguments are as they were. -/
theorem run_arrays (ρ : Dev nD → PrngReg) : θ_run (defs (F := Ideal)) (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_v3_3) = (dats m 0 c).arrAt 9 cfg0.N
      ∧ r.2.mem ((c : Thread nD τ).loc main_v3_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, (h c).1 10,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.CtxReferenceIdeal.Hand

end

end
-- ==== Proof.CtxSame.lean ====
/- The `ctx` call and its formula: the two programs' results are equal. -/
module

public import proofs.«01_k».proof.Defs
public import proofs.«01_k».proof.Proof.CtxKRun
public import proofs.«01_k».proof.Proof.CtxRRun
public import proofs.«01_k».proof.Proof.Gen.CtxKernelIdeal.Value
public import proofs.«01_k».proof.Proof.Gen.CtxKernel.Frame
public import proofs.«01_k».proof.Proof.Gen.Pre_inputs_finite

@[expose] public section

noncomputable section

namespace Cert.Ctx

open scoped BigOperators
open Idealize.ShloMosaic Idealize.ShloMosaic.TcCoe Idealize.SL.Sem

/-- The memory of the kernel's program. -/
abbrev MK := (ℓ : Loc Cert.CtxKernelIdeal.nD Cert.CtxKernelIdeal.τ Cert.CtxKernelIdeal.sig) → Buf (Elt Ideal) ℓ
/-- The memory of the formula's program. -/
abbrev MR := (ℓ : Loc Cert.CtxReferenceIdeal.nD Cert.CtxReferenceIdeal.τ Cert.CtxReferenceIdeal.sig) → Buf (Elt Ideal) ℓ

/-- The largest number of bf16. -/
theorem largest_eq : Ideal.ofBits .f32 0x7F7F0000#32 = ((255 * 2 ^ 120 : ℝ) : EReal) := by
  have h : Ideal.ofBits .f32 0x7F7F0000#32 = ((16711680 * 2 ^ 104 : ℝ) : EReal) := by
    simp [Ideal.ofBits, Ideal.ieee]
  rw [h]
  norm_num

/-- What the comparison of the precondition says of a number. -/
theorem le_of_cmp (x : EReal) (e : Ideal.cmp .ole (max x (-x)) (Ideal.ofBits .f32 0x7F7F0000#32) = 1#1) : max x (-x) ≤ ((255 * 2 ^ 120 : ℝ) : EReal) := by
  have e' : BitVec.ofBool (decide (max x (-x) ≤ Ideal.ofBits .f32 0x7F7F0000#32)) = 1#1 := e
  rw [largest_eq] at e'
  by_contra hn
  rw [decide_eq_false hn] at e'
  exact absurd e' (by decide)

/-- The precondition: every number of the tokens is at most the largest of bf16 in absolute value. -/
theorem le_of_pre (m : MK) (h : Cert.Pre_CtxKernelIdeal_inputs_finite (hPre_inputs_finite := Cert.Pre_inputs_finite.Gen.facts) m)
    (c : Dev Cert.CtxKernelIdeal.nD) (i : Cert.CtxKernelIdeal.S2x2048x1024.Idx) (x : EReal)
    (hx : x = (m ((c.tc : Thread Cert.CtxKernelIdeal.nD Cert.CtxKernelIdeal.τ).loc Cert.CtxKernelIdeal.main_arg0) : Vec Ideal Cert.CtxKernelIdeal.S2x2048x1024 .bf16) i) :
    max x (-x) ≤ ((255 * 2 ^ 120 : ℝ) : EReal) := by
  subst hx
  exact le_of_cmp _ (congrFun (h c) i)

/-- A number of a matrix of another shape is one of the array's. -/
theorem cast_mem {s t : Shape} {e : EltTy} (y : Vec Ideal s e) (h : s.ShapeCasts t) (i : t.Idx) : ∃ j, shapeCast t y h i = y j := ⟨_, rfl⟩

section Equal
variable (m : MK) (m' : MR) (c : Dev Cert.CtxKernelIdeal.nD)

/-- A token's row has a normal scale. -/
theorem bounded_row (h : Cert.Pre_CtxKernelIdeal_inputs_finite (hPre_inputs_finite := Cert.Pre_inputs_finite.Gen.facts) m) (n : Fin 4096) :
    Bounded (amax (Cert.CtxKernelIdeal.Hand.xrow m c n)) := by
  refine bounded_of_le (by norm_num) _ (B := 255 * 2 ^ 120) (by norm_num) fun d => ?_
  unfold Cert.CtxKernelIdeal.Hand.xrow
  rw [Cert.CtxKernelIdeal.Hand.arrX_eq]
  obtain ⟨j, hj⟩ := cast_mem (m ((c.tc : Thread Cert.CtxKernelIdeal.nD Cert.CtxKernelIdeal.τ).loc Cert.CtxKernelIdeal.main_arg0) : Vec Ideal Cert.CtxKernelIdeal.S2x2048x1024 .bf16)
    Cert.CtxKernelIdeal.Gen.shapeCasts_S2x2048x1024_S4096x1024 (ix2 n d)
  rw [hj]
  exact le_of_pre m h c j _ rfl

/-- A context has a normal scale. -/
theorem bounded_ctx (n : Fin 4096) (k : Fin 4) : Bounded (amax (Cert.CtxKernelIdeal.Hand.ctxv m c n k)) := by
  exact bounded_tanh (by norm_num) _

/-- The two ways to make a scale are one, -/
theorem scale_same {a : EReal} (h : Bounded a) : kscale a = rscale a := scale_eq h
/-- and so are the two ways to make its inverse. -/
theorem inv_same {a : EReal} (h : Bounded a) : kinv a = rinv a := inv_eq h

/-- The codes of a row of normal scale are the formula's, -/
theorem qcode_same {n : ℕ} (v : Fin n → EReal) (h : Bounded (amax v)) (d : Fin n) : qcode kinv v d = qcode rinv v d := by
  unfold qcode
  rw [inv_same h]

/-- and so is the context of such a row. -/
theorem qctx_same (x : Fin 1024 → EReal) (W : Fin 1024 → Fin 1280 → EReal) (s b : Fin 1280 → EReal) (h : Bounded (amax x)) (j : Fin 1280) :
    qctx kinv kscale x W s b j = qctx rinv rscale x W s b j := by
  unfold qctx
  rw [scale_same h, funext (qcode_same x h)]

/-- The two programs are given the same arguments. -/
def Same : Prop :=
  m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
  ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
  ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
  ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)
  ∧ m' ((c.tc : Thread Cert.CtxReferenceIdeal.nD Cert.CtxReferenceIdeal.τ).loc Cert.CtxReferenceIdeal.main_arg4) = m ((c.tc : Thread Cert.CtxKernelIdeal.nD Cert.CtxKernelIdeal.τ).loc Cert.CtxKernelIdeal.main_arg4)
  ∧ m' ((c.tc : Thread Cert.CtxReferenceIdeal.nD Cert.CtxReferenceIdeal.τ).loc Cert.CtxReferenceIdeal.main_arg5) = m ((c.tc : Thread Cert.CtxKernelIdeal.nD Cert.CtxKernelIdeal.τ).loc Cert.CtxKernelIdeal.main_arg5)

variable (hs : Same m m' c)
include hs

/-- The two programs' rows are the same, -/
theorem row_same (n : Fin 4096) : Cert.CtxReferenceIdeal.Hand.xrow m' c n = Cert.CtxKernelIdeal.Hand.xrow m c n := by
  funext d
  unfold Cert.CtxReferenceIdeal.Hand.xrow Cert.CtxKernelIdeal.Hand.xrow
  rw [Cert.CtxReferenceIdeal.Hand.arrX_eq, Cert.CtxKernelIdeal.Hand.arrX_eq, hs.1]

/-- their weights, -/
theorem weights_same : (Cert.CtxReferenceIdeal.Hand.arrW m' c : Vec Ideal Cert.CtxKernelIdeal.S4x1024x1280 .fp8e4m3) = Cert.CtxKernelIdeal.Hand.arrW m c := by
  rw [Cert.CtxReferenceIdeal.Hand.arrW_eq, Cert.CtxKernelIdeal.Hand.arrW_eq, hs.2.1]

/-- scales -/
theorem scales_same : (Cert.CtxReferenceIdeal.Hand.arrS m' c : Vec Ideal Cert.CtxKernelIdeal.S4x1280 .f32) = Cert.CtxKernelIdeal.Hand.arrS m c :=
  (Cert.CtxReferenceIdeal.Gen.V_main_arg2 m' c).trans (hs.2.2.1.trans (Cert.CtxKernelIdeal.Gen.V_main_arg2 m c).symm)

/-- and biases, -/
theorem biases_same : (Cert.CtxReferenceIdeal.Hand.arrB m' c : Vec Ideal Cert.CtxKernelIdeal.S4x1280 .f32) = Cert.CtxKernelIdeal.Hand.arrB m c :=
  (Cert.CtxReferenceIdeal.Gen.V_main_arg3 m' c).trans (hs.2.2.2.1.trans (Cert.CtxKernelIdeal.Gen.V_main_arg3 m c).symm)

/-- and the weights of the mixture. -/
theorem mixture_same : (Cert.CtxReferenceIdeal.Hand.arrP m' c : Vec Ideal Cert.CtxKernelIdeal.S1024x4 .f32)
    = m ((c.tc : Thread Cert.CtxKernelIdeal.nD Cert.CtxKernelIdeal.τ).loc Cert.CtxKernelIdeal.main_arg4) :=
  (Cert.CtxReferenceIdeal.Gen.V_main_arg4 m' c).trans hs.2.2.2.2.1

variable (hp : Cert.Pre_CtxKernelIdeal_inputs_finite (hPre_inputs_finite := Cert.Pre_inputs_finite.Gen.facts) m)
include hp

/-- The two programs' contexts are the same. -/
theorem ctx_same (n : Fin 4096) (k : Fin 4) : Cert.CtxReferenceIdeal.Hand.ctxv m' c n k = Cert.CtxKernelIdeal.Hand.ctxv m c n k := by
  funext j
  unfold Cert.CtxReferenceIdeal.Hand.ctxv Cert.CtxKernelIdeal.Hand.ctxv
  rw [qctx_same _ _ _ _ (bounded_row m c hp n), row_same m m' c hs, weights_same m m' c hs, scales_same m m' c hs, biases_same m m' c hs]

/-- The tokens' codes of the two programs are equal, -/
theorem same6 : ((Cert.CtxReferenceIdeal.Gen.dats m' 0 c).arrAt 6 Cert.CtxReferenceIdeal.cfg0.N : Vec Ideal Cert.CtxKernelIdeal.S4096x1024 .fp8e4m3)
    = ((Cert.CtxKernelIdeal.Gen.dats m 0 c).arrAt 6 Cert.CtxKernelIdeal.cfg0.N : Vec Ideal Cert.CtxKernelIdeal.S4096x1024 .fp8e4m3) := by
  funext i
  obtain ⟨n, d, rfl⟩ : ∃ (n : Fin 4096) (d : Fin 1024), i = ix2 n d := ⟨i 0, i 1, Cert.Loss.idx2 i⟩
  refine (Cert.CtxReferenceIdeal.Hand.final6 m' c n d).trans (Eq.trans ?_ (Cert.CtxKernelIdeal.Hand.final6 m c n d).symm)
  rw [row_same m m' c hs, qcode_same _ (bounded_row m c hp n)]

/-- so are the tokens' scales, -/
theorem same7 : ((Cert.CtxReferenceIdeal.Gen.dats m' 0 c).arrAt 7 Cert.CtxReferenceIdeal.cfg0.N : Vec Ideal Cert.CtxKernelIdeal.S4096x1 .f32)
    = ((Cert.CtxKernelIdeal.Gen.dats m 0 c).arrAt 7 Cert.CtxKernelIdeal.cfg0.N : Vec Ideal Cert.CtxKernelIdeal.S4096x1 .f32) := by
  funext i
  obtain ⟨n, rfl⟩ : ∃ n : Fin 4096, i = ix2 n 0 := ⟨i 0, (Cert.Loss.idx2 i).trans (congrArg (ix2 (i 0)) (Subsingleton.elim (α := Fin 1) _ _))⟩
  refine (Cert.CtxReferenceIdeal.Hand.final7 m' c n).trans (Eq.trans ?_ (Cert.CtxKernelIdeal.Hand.final7 m c n).symm)
  rw [row_same m m' c hs, scale_same (bounded_row m c hp n)]

omit hp in
/-- the logarithms of the mixture's weights, -/
theorem same8 : ((Cert.CtxReferenceIdeal.Gen.dats m' 0 c).arrAt 8 Cert.CtxReferenceIdeal.cfg0.N : Vec Ideal Cert.CtxKernelIdeal.S4096x4 .f32)
    = ((Cert.CtxKernelIdeal.Gen.dats m 0 c).arrAt 8 Cert.CtxKernelIdeal.cfg0.N : Vec Ideal Cert.CtxKernelIdeal.S4096x4 .f32) := by
  funext i
  obtain ⟨n, k, rfl⟩ : ∃ (n : Fin 4096) (k : Fin 4), i = ix2 n k := ⟨i 0, i 1, Cert.Loss.idx2 i⟩
  refine (Cert.CtxReferenceIdeal.Hand.final8 m' c n k).trans (Eq.trans ?_ (Cert.CtxKernelIdeal.Hand.final8 m c n k).symm)
  rw [row_same m m' c hs, mixture_same m m' c hs, hs.2.2.2.2.2]

/-- the contexts' codes -/
theorem same9 : ((Cert.CtxReferenceIdeal.Gen.dats m' 0 c).arrAt 9 Cert.CtxReferenceIdeal.cfg0.N : Vec Ideal Cert.CtxKernelIdeal.S4x4096x1280 .fp8e4m3)
    = ((Cert.CtxKernelIdeal.Gen.dats m 0 c).arrAt 9 Cert.CtxKernelIdeal.cfg0.N : Vec Ideal Cert.CtxKernelIdeal.S4x4096x1280 .fp8e4m3) := by
  funext i
  obtain ⟨k, n, j, rfl⟩ : ∃ (k : Fin 4) (n : Fin 4096) (j : Fin 1280), i = ix3 k n j := ⟨i 0, i 1, i 2, idx3 i⟩
  refine (Cert.CtxReferenceIdeal.Hand.final9 m' c k n j).trans (Eq.trans ?_ (Cert.CtxKernelIdeal.Hand.final9 m c k n j).symm)
  rw [ctx_same m m' c hs hp, qcode_same _ (bounded_ctx m c n k)]

/-- and the contexts' scales. -/
theorem same10 : ((Cert.CtxReferenceIdeal.Gen.dats m' 0 c).arrAt 10 Cert.CtxReferenceIdeal.cfg0.N : Vec Ideal Cert.CtxKernelIdeal.S4096x4 .f32)
    = ((Cert.CtxKernelIdeal.Gen.dats m 0 c).arrAt 10 Cert.CtxKernelIdeal.cfg0.N : Vec Ideal Cert.CtxKernelIdeal.S4096x4 .f32) := by
  funext i
  obtain ⟨n, k, rfl⟩ : ∃ (n : Fin 4096) (k : Fin 4), i = ix2 n k := ⟨i 0, i 1, Cert.Loss.idx2 i⟩
  refine (Cert.CtxReferenceIdeal.Hand.final10 m' c n k).trans (Eq.trans ?_ (Cert.CtxKernelIdeal.Hand.final10 m c n k).symm)
  rw [ctx_same m m' c hs hp, scale_same (bounded_ctx m c n k)]

end Equal

/-- The claim on values of the `ctx` call: over the extended reals the kernel's five results are the formula's. -/
theorem algebraic : Cert.algebraic_CtxKernelIdeal_CtxReferenceIdeal_pre_inputs_finite (hCtxKernelIdeal := Cert.CtxKernelIdeal.Gen.facts)
    (hCtxReferenceIdeal := Cert.CtxReferenceIdeal.Gen.facts) (hPre_inputs_finite := Cert.Pre_inputs_finite.Gen.facts) := by
  intro m g m' g' hp hs
  refine ⟨_, _, _, _, _, Cert.CtxKernelIdeal.Value.run_blocks m g,
    (θ_run _ _ _).mono (fun r h c => ?_) (Cert.CtxReferenceIdeal.Hand.run_arrays m' g')⟩
  obtain ⟨h6, h7, h8, h9, h10, hk⟩ := h c
  exact ⟨h6.trans (same6 m m' c (hs c) hp), h7.trans (same7 m m' c (hs c) hp), h8.trans (same8 m m' c (hs c)),
    h9.trans (same9 m m' c (hs c) hp), h10.trans (same10 m m' c (hs c) hp), hk⟩

end Cert.Ctx

end

end
-- ==== Proof.lean ====
module

public import proofs.«01_k».proof.Defs
public import proofs.«01_k».proof.Proof.BRun
public import proofs.«01_k».proof.Proof.KRun
public import proofs.«01_k».proof.Proof.KValue
public import proofs.«01_k».proof.Proof.RValue
public import proofs.«01_k».proof.Proof.Args
public import proofs.«01_k».proof.Proof.LossSame
public import proofs.«01_k».proof.Proof.CtxSame
public import proofs.«01_k».proof.Proof.Gen.LossKernel.Frame
public import proofs.«01_k».proof.Proof.Gen.LossKernelIdeal.Frame
public import proofs.«01_k».proof.Proof.Gen.Pre_targets_in_vocabulary
public import Idealize.ShloMosaic.Adequacy
public import Idealize.ShloMosaic.Init

@[expose] public section

noncomputable section

namespace Cert.Proof

open Idealize.ShloMosaic Idealize.ShloMosaic.TcCoe Idealize.SL.Sem

/-- The two named constants are the numbers the program rounds. -/
theorem preserves : Cert.preserves_Kernel_KernelIdeal :=
  ⟨IdealRules.named_const.statement Cert.KernelIdeal.κ "log2e" .f32 0x3FB8AA3B#32 _ rfl,
   IdealRules.named_const.statement Cert.KernelIdeal.κ "ln2" .f32 0x3F317218#32 _ rfl⟩

/-- The memory of the kernel's program. -/
abbrev MK := (ℓ : Loc Cert.KernelIdeal.nD Cert.KernelIdeal.τ Cert.KernelIdeal.sig) → Buf (Elt Ideal) ℓ
/-- The memory of the formula's program. -/
abbrev MR := (ℓ : Loc Cert.ReferenceIdeal.nD Cert.ReferenceIdeal.τ Cert.ReferenceIdeal.sig) → Buf (Elt Ideal) ℓ

/-- The two programs are given the same arguments. -/
def Same (m : MK) (m' : MR) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

section Equal
variable (m : MK) (m' : MR) (c : Dev Cert.KernelIdeal.nD) (h : Same m m' c)
include h

/-- The two programs' targets are the same. -/
theorem arrT_same : Cert.ReferenceIdeal.Hand.arrT m' c = Cert.KernelIdeal.Hand.arrT m c := by
  rw [Cert.ReferenceIdeal.Hand.arrT_eq, Cert.KernelIdeal.Hand.arrT_eq, h.1]

/-- The two programs' logits are the same. -/
theorem logit_same (j : Fin 16384) : Cert.ReferenceIdeal.Hand.logit m' c j = Cert.KernelIdeal.Hand.logit m c j := by
  funext v
  unfold Cert.ReferenceIdeal.Hand.logit Cert.KernelIdeal.Hand.logit
  rw [Cert.ReferenceIdeal.Hand.arrS_eq, Cert.ReferenceIdeal.Hand.arrC_eq, Cert.ReferenceIdeal.Hand.arrX_eq, Cert.ReferenceIdeal.Hand.arrW_eq,
    Cert.KernelIdeal.Hand.arrS_eq, Cert.KernelIdeal.Hand.arrC_eq, Cert.KernelIdeal.Hand.arrX_eq, h.2.1, h.2.2.1, h.2.2.2.1, h.2.2.2.2]
  refine congrArg₂ (fun a b : EReal => a * b) (Finset.sum_congr rfl fun k _ => ?_) rfl
  exact congrArg₂ (fun a b : EReal => a * b) (Cert.KernelIdeal.Hand.arrW_at m c v k).symm rfl

/-- The two programs' logsumexps are the same, -/
theorem lse_same (j : Fin 16384) : Cert.ReferenceIdeal.Hand.lseVal m' c j = Cert.KernelIdeal.Hand.lseVal m c j := by
  unfold Cert.ReferenceIdeal.Hand.lseVal Cert.KernelIdeal.Hand.lseVal
  rw [logit_same m m' c h j]

/-- and so are their targets' logits. -/
theorem zt_same (j : Fin 16384) : Cert.ReferenceIdeal.Hand.ztVal m' c j = Cert.KernelIdeal.Hand.ztVal m c j := by
  unfold Cert.ReferenceIdeal.Hand.ztVal Cert.KernelIdeal.Hand.ztVal
  rw [logit_same m m' c h j, arrT_same m m' c h]

end Equal

/-- The precondition: every target is below the vocabulary's size. -/
theorem targets_of_pre (m : MK) (h : Cert.Pre_KernelIdeal_targets_in_vocabulary (hPre_targets_in_vocabulary := Cert.Pre_targets_in_vocabulary.Gen.facts) m)
    (c : Dev Cert.KernelIdeal.nD) (i : Cert.KernelIdeal.S2x2048.Idx) :
    ((m ((c.tc : Thread Cert.KernelIdeal.nD Cert.KernelIdeal.τ).loc Cert.KernelIdeal.main_arg0) : Vec Ideal Cert.KernelIdeal.S2x2048 .i32) i).toInt < 50257 := by
  have e := congrFun (h c) i
  have e' : BitVec.ofBool (BitVec.slt ((m ((c.tc : Thread Cert.KernelIdeal.nD Cert.KernelIdeal.τ).loc Cert.KernelIdeal.main_arg0) : Vec Ideal Cert.KernelIdeal.S2x2048 .i32) i) 50257#32) = 1#1 := e
  have e2 : BitVec.slt ((m ((c.tc : Thread Cert.KernelIdeal.nD Cert.KernelIdeal.τ).loc Cert.KernelIdeal.main_arg0) : Vec Ideal Cert.KernelIdeal.S2x2048 .i32) i) 50257#32 = true := by
    revert e'
    cases BitVec.slt ((m ((c.tc : Thread Cert.KernelIdeal.nD Cert.KernelIdeal.τ).loc Cert.KernelIdeal.main_arg0) : Vec Ideal Cert.KernelIdeal.S2x2048 .i32) i) 50257#32 <;> decide
  have e3 := BitVec.slt_iff_toInt_lt.mp e2
  exact e3

/-- Over the extended reals the kernel's results are the formula's. -/
theorem algebraic : Cert.algebraic_KernelIdeal_ReferenceIdeal_pre_targets_in_vocabulary (hKernelIdeal := Cert.KernelIdeal.Gen.facts)
    (hReferenceIdeal := Cert.ReferenceIdeal.Gen.facts) (hPre_targets_in_vocabulary := Cert.Pre_targets_in_vocabulary.Gen.facts) := by
  intro m g m' g' hp hs
  refine ⟨fun c => (fun i => Cert.KernelIdeal.Hand.lseVal m c (i 1)), fun c => (fun i => Cert.KernelIdeal.Hand.ztVal m c (i 1)),
    Cert.KernelIdeal.Hand.run_value m g fun c j => Cert.KernelIdeal.Hand.targets_lt m c (targets_of_pre m hp c) _,
    (θ_run _ _ _).mono (fun r h c => ?_) (Cert.ReferenceIdeal.Value.run_blocks m' g')⟩
  obtain ⟨h5, h6, hk⟩ := h c
  refine ⟨h5.trans ((Cert.ReferenceIdeal.Hand.final5 m' c).trans (funext fun i => ?_)),
    h6.trans ((Cert.ReferenceIdeal.Hand.final6 m' c).trans (funext fun i => ?_)), hk⟩
  · exact lse_same m m' c (hs c) (i 1)
  · exact zt_same m m' c (hs c) (i 1)

/-- Everything claimed. -/
theorem claim : Cert.Claim := ⟨Cert.Kernel.Gen.facts, Cert.KernelIdeal.Gen.facts, Cert.ReferenceIdeal.Gen.facts, Cert.LossKernel.Gen.facts, Cert.LossKernelIdeal.Gen.facts,
  Cert.LossReferenceIdeal.Gen.facts, Cert.CtxKernel.Gen.facts, Cert.CtxKernelIdeal.Gen.facts, Cert.CtxReferenceIdeal.Gen.facts,
  Cert.Pre_targets_in_vocabulary.Gen.facts, Cert.Pre_inputs_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  fun m ρ _ => Cert.LossKernel.Gen.frame m ρ,
  fun m ρ _ => Cert.LossKernelIdeal.Gen.frame m ρ,
  Cert.Loss.frame_formula,
  fun m ρ _ => Cert.CtxKernel.Gen.frame m ρ,
  fun m ρ _ => Cert.CtxKernelIdeal.Gen.frame m ρ,
  fun m ρ _ => Cert.CtxKernelIdeal.Gen.frame m ρ,
  fun m ρ _ => Cert.CtxReferenceIdeal.Gen.frame m ρ,
  fun m ρ _ => Cert.CtxReferenceIdeal.Gen.frame m ρ,
  preserves, algebraic, trivial, Cert.Loss.algebraic, trivial, Cert.Ctx.algebraic⟩

end Cert.Proof

end
